-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S128x2048 : Shape := ⟨2, ![128, 2048]⟩
abbrev S32x128x128 : Shape := ⟨3, ![32, 128, 128]⟩
abbrev S32 : Shape := ⟨1, ![32]⟩
abbrev S128x128 : Shape := ⟨2, ![128, 128]⟩
abbrev S1x128x128 : Shape := ⟨3, ![1, 128, 128]⟩
abbrev S_ : Shape := ⟨0, ![]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S128x2048, .f32⟩
  | .local _ .vmem, ⟨0, _⟩ => ⟨S4096x128, .bf16⟩
  | .local _ .vmem, ⟨1, _⟩ => ⟨S4096x2048, .bf16⟩
  | .local _ .vmem, ⟨2, _⟩ => ⟨S128x2048, .f32⟩
  | .local _ .vmem, ⟨3, _⟩ => ⟨S32x128x128, .bf16⟩
  | .local _ .vmem, ⟨4, _⟩ => ⟨S32x128x128, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : BitVec 32 := Scalar.addi v2 c0_i32
  let c32_i32_0 : BitVec 32 := 32#32
  let c0_i32_1 : BitVec 32 := 0#32
  let v4 : BitVec 1 := Scalar.cmpi .eq c32_i32_0 c0_i32_1
  let c1_i32_2 : BitVec 32 := 1#32
  let v5 : BitVec 32 := Scalar.select v4 c1_i32_2 c32_i32_0
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c128_i32 : BitVec 32 := 128#32
  let v14 : BitVec 32 := Scalar.muli v13 c128_i32
  let v15 : Index := Scalar.indexCast v14
  let c0 : Index := 0#32
  ![v15.toNat, 0]
def k0_dev1 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_320 : BitVec 32 := 1#32
  let v580 : BitVec 32 := Scalar.addi v2 c1_i32_320
  let c32_i32_321 : BitVec 32 := 32#32
  let c0_i32_322 : BitVec 32 := 0#32
  let v581 : BitVec 1 := Scalar.cmpi .eq c32_i32_321 c0_i32_322
  let c1_i32_323 : BitVec 32 := 1#32
  let v582 : BitVec 32 := Scalar.select v581 c1_i32_323 c32_i32_321
  let v583 : BitVec 32 := Scalar.remsi v580 v582
  let c0_i32_325 : BitVec 32 := 0#32
  let v585 : BitVec 1 := Scalar.cmpi .slt v583 c0_i32_325
  let c0_i32_326 : BitVec 32 := 0#32
  let v586 : BitVec 1 := Scalar.cmpi .slt v582 c0_i32_326
  let v587 : BitVec 1 := Scalar.xori v585 v586
  let c0_i32_324 : BitVec 32 := 0#32
  let v584 : BitVec 1 := Scalar.cmpi .ne v583 c0_i32_324
  let v588 : BitVec 1 := Scalar.andi v587 v584
  let v589 : BitVec 32 := Scalar.addi v583 v582
  let v590 : BitVec 32 := Scalar.select v588 v589 v583
  let c1_i32_328 : BitVec 32 := 1#32
  let v591 : BitVec 32 := Scalar.muli v590 c1_i32_328
  let v592 : BitVec 32 := Scalar.addi c0_i32_329 v591
  v592.toNat
def k0_dev2 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_330 : BitVec 32 := 2#32
  let v593 : BitVec 32 := Scalar.addi v2 c2_i32_330
  let c32_i32_331 : BitVec 32 := 32#32
  let c0_i32_332 : BitVec 32 := 0#32
  let v594 : BitVec 1 := Scalar.cmpi .eq c32_i32_331 c0_i32_332
  let c1_i32_333 : BitVec 32 := 1#32
  let v595 : BitVec 32 := Scalar.select v594 c1_i32_333 c32_i32_331
  let v596 : BitVec 32 := Scalar.remsi v593 v595
  let c0_i32_335 : BitVec 32 := 0#32
  let v598 : BitVec 1 := Scalar.cmpi .slt v596 c0_i32_335
  let c0_i32_336 : BitVec 32 := 0#32
  let v599 : BitVec 1 := Scalar.cmpi .slt v595 c0_i32_336
  let v600 : BitVec 1 := Scalar.xori v598 v599
  let c0_i32_334 : BitVec 32 := 0#32
  let v597 : BitVec 1 := Scalar.cmpi .ne v596 c0_i32_334
  let v601 : BitVec 1 := Scalar.andi v600 v597
  let v602 : BitVec 32 := Scalar.addi v596 v595
  let v603 : BitVec 32 := Scalar.select v601 v602 v596
  let c1_i32_338 : BitVec 32 := 1#32
  let v604 : BitVec 32 := Scalar.muli v603 c1_i32_338
  let v605 : BitVec 32 := Scalar.addi c0_i32_339 v604
  v605.toNat
def k0_dev3 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_340 : BitVec 32 := 3#32
  let v606 : BitVec 32 := Scalar.addi v2 c3_i32_340
  let c32_i32_341 : BitVec 32 := 32#32
  let c0_i32_342 : BitVec 32 := 0#32
  let v607 : BitVec 1 := Scalar.cmpi .eq c32_i32_341 c0_i32_342
  let c1_i32_343 : BitVec 32 := 1#32
  let v608 : BitVec 32 := Scalar.select v607 c1_i32_343 c32_i32_341
  let v609 : BitVec 32 := Scalar.remsi v606 v608
  let c0_i32_345 : BitVec 32 := 0#32
  let v611 : BitVec 1 := Scalar.cmpi .slt v609 c0_i32_345
  let c0_i32_346 : BitVec 32 := 0#32
  let v612 : BitVec 1 := Scalar.cmpi .slt v608 c0_i32_346
  let v613 : BitVec 1 := Scalar.xori v611 v612
  let c0_i32_344 : BitVec 32 := 0#32
  let v610 : BitVec 1 := Scalar.cmpi .ne v609 c0_i32_344
  let v614 : BitVec 1 := Scalar.andi v613 v610
  let v615 : BitVec 32 := Scalar.addi v609 v608
  let v616 : BitVec 32 := Scalar.select v614 v615 v609
  let c1_i32_348 : BitVec 32 := 1#32
  let v617 : BitVec 32 := Scalar.muli v616 c1_i32_348
  let v618 : BitVec 32 := Scalar.addi c0_i32_349 v617
  v618.toNat
def k0_dev4 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_350 : BitVec 32 := 4#32
  let v619 : BitVec 32 := Scalar.addi v2 c4_i32_350
  let c32_i32_351 : BitVec 32 := 32#32
  let c0_i32_352 : BitVec 32 := 0#32
  let v620 : BitVec 1 := Scalar.cmpi .eq c32_i32_351 c0_i32_352
  let c1_i32_353 : BitVec 32 := 1#32
  let v621 : BitVec 32 := Scalar.select v620 c1_i32_353 c32_i32_351
  let v622 : BitVec 32 := Scalar.remsi v619 v621
  let c0_i32_355 : BitVec 32 := 0#32
  let v624 : BitVec 1 := Scalar.cmpi .slt v622 c0_i32_355
  let c0_i32_356 : BitVec 32 := 0#32
  let v625 : BitVec 1 := Scalar.cmpi .slt v621 c0_i32_356
  let v626 : BitVec 1 := Scalar.xori v624 v625
  let c0_i32_354 : BitVec 32 := 0#32
  let v623 : BitVec 1 := Scalar.cmpi .ne v622 c0_i32_354
  let v627 : BitVec 1 := Scalar.andi v626 v623
  let v628 : BitVec 32 := Scalar.addi v622 v621
  let v629 : BitVec 32 := Scalar.select v627 v628 v622
  let c1_i32_358 : BitVec 32 := 1#32
  let v630 : BitVec 32 := Scalar.muli v629 c1_i32_358
  let v631 : BitVec 32 := Scalar.addi c0_i32_359 v630
  v631.toNat
def k0_dev5 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_360 : BitVec 32 := 5#32
  let v632 : BitVec 32 := Scalar.addi v2 c5_i32_360
  let c32_i32_361 : BitVec 32 := 32#32
  let c0_i32_362 : BitVec 32 := 0#32
  let v633 : BitVec 1 := Scalar.cmpi .eq c32_i32_361 c0_i32_362
  let c1_i32_363 : BitVec 32 := 1#32
  let v634 : BitVec 32 := Scalar.select v633 c1_i32_363 c32_i32_361
  let v635 : BitVec 32 := Scalar.remsi v632 v634
  let c0_i32_365 : BitVec 32 := 0#32
  let v637 : BitVec 1 := Scalar.cmpi .slt v635 c0_i32_365
  let c0_i32_366 : BitVec 32 := 0#32
  let v638 : BitVec 1 := Scalar.cmpi .slt v634 c0_i32_366
  let v639 : BitVec 1 := Scalar.xori v637 v638
  let c0_i32_364 : BitVec 32 := 0#32
  let v636 : BitVec 1 := Scalar.cmpi .ne v635 c0_i32_364
  let v640 : BitVec 1 := Scalar.andi v639 v636
  let v641 : BitVec 32 := Scalar.addi v635 v634
  let v642 : BitVec 32 := Scalar.select v640 v641 v635
  let c1_i32_368 : BitVec 32 := 1#32
  let v643 : BitVec 32 := Scalar.muli v642 c1_i32_368
  let v644 : BitVec 32 := Scalar.addi c0_i32_369 v643
  v644.toNat
def k0_dev6 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_370 : BitVec 32 := 6#32
  let v645 : BitVec 32 := Scalar.addi v2 c6_i32_370
  let c32_i32_371 : BitVec 32 := 32#32
  let c0_i32_372 : BitVec 32 := 0#32
  let v646 : BitVec 1 := Scalar.cmpi .eq c32_i32_371 c0_i32_372
  let c1_i32_373 : BitVec 32 := 1#32
  let v647 : BitVec 32 := Scalar.select v646 c1_i32_373 c32_i32_371
  let v648 : BitVec 32 := Scalar.remsi v645 v647
  let c0_i32_375 : BitVec 32 := 0#32
  let v650 : BitVec 1 := Scalar.cmpi .slt v648 c0_i32_375
  let c0_i32_376 : BitVec 32 := 0#32
  let v651 : BitVec 1 := Scalar.cmpi .slt v647 c0_i32_376
  let v652 : BitVec 1 := Scalar.xori v650 v651
  let c0_i32_374 : BitVec 32 := 0#32
  let v649 : BitVec 1 := Scalar.cmpi .ne v648 c0_i32_374
  let v653 : BitVec 1 := Scalar.andi v652 v649
  let v654 : BitVec 32 := Scalar.addi v648 v647
  let v655 : BitVec 32 := Scalar.select v653 v654 v648
  let c1_i32_378 : BitVec 32 := 1#32
  let v656 : BitVec 32 := Scalar.muli v655 c1_i32_378
  let v657 : BitVec 32 := Scalar.addi c0_i32_379 v656
  v657.toNat
def k0_dev7 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_380 : BitVec 32 := 7#32
  let v658 : BitVec 32 := Scalar.addi v2 c7_i32_380
  let c32_i32_381 : BitVec 32 := 32#32
  let c0_i32_382 : BitVec 32 := 0#32
  let v659 : BitVec 1 := Scalar.cmpi .eq c32_i32_381 c0_i32_382
  let c1_i32_383 : BitVec 32 := 1#32
  let v660 : BitVec 32 := Scalar.select v659 c1_i32_383 c32_i32_381
  let v661 : BitVec 32 := Scalar.remsi v658 v660
  let c0_i32_385 : BitVec 32 := 0#32
  let v663 : BitVec 1 := Scalar.cmpi .slt v661 c0_i32_385
  let c0_i32_386 : BitVec 32 := 0#32
  let v664 : BitVec 1 := Scalar.cmpi .slt v660 c0_i32_386
  let v665 : BitVec 1 := Scalar.xori v663 v664
  let c0_i32_384 : BitVec 32 := 0#32
  let v662 : BitVec 1 := Scalar.cmpi .ne v661 c0_i32_384
  let v666 : BitVec 1 := Scalar.andi v665 v662
  let v667 : BitVec 32 := Scalar.addi v661 v660
  let v668 : BitVec 32 := Scalar.select v666 v667 v661
  let c1_i32_388 : BitVec 32 := 1#32
  let v669 : BitVec 32 := Scalar.muli v668 c1_i32_388
  let v670 : BitVec 32 := Scalar.addi c0_i32_389 v669
  v670.toNat
def k0_dev8 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_390 : BitVec 32 := 8#32
  let v671 : BitVec 32 := Scalar.addi v2 c8_i32_390
  let c32_i32_391 : BitVec 32 := 32#32
  let c0_i32_392 : BitVec 32 := 0#32
  let v672 : BitVec 1 := Scalar.cmpi .eq c32_i32_391 c0_i32_392
  let c1_i32_393 : BitVec 32 := 1#32
  let v673 : BitVec 32 := Scalar.select v672 c1_i32_393 c32_i32_391
  let v674 : BitVec 32 := Scalar.remsi v671 v673
  let c0_i32_395 : BitVec 32 := 0#32
  let v676 : BitVec 1 := Scalar.cmpi .slt v674 c0_i32_395
  let c0_i32_396 : BitVec 32 := 0#32
  let v677 : BitVec 1 := Scalar.cmpi .slt v673 c0_i32_396
  let v678 : BitVec 1 := Scalar.xori v676 v677
  let c0_i32_394 : BitVec 32 := 0#32
  let v675 : BitVec 1 := Scalar.cmpi .ne v674 c0_i32_394
  let v679 : BitVec 1 := Scalar.andi v678 v675
  let v680 : BitVec 32 := Scalar.addi v674 v673
  let v681 : BitVec 32 := Scalar.select v679 v680 v674
  let c1_i32_398 : BitVec 32 := 1#32
  let v682 : BitVec 32 := Scalar.muli v681 c1_i32_398
  let v683 : BitVec 32 := Scalar.addi c0_i32_399 v682
  v683.toNat
def k0_dev9 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_400 : BitVec 32 := 9#32
  let v684 : BitVec 32 := Scalar.addi v2 c9_i32_400
  let c32_i32_401 : BitVec 32 := 32#32
  let c0_i32_402 : BitVec 32 := 0#32
  let v685 : BitVec 1 := Scalar.cmpi .eq c32_i32_401 c0_i32_402
  let c1_i32_403 : BitVec 32 := 1#32
  let v686 : BitVec 32 := Scalar.select v685 c1_i32_403 c32_i32_401
  let v687 : BitVec 32 := Scalar.remsi v684 v686
  let c0_i32_405 : BitVec 32 := 0#32
  let v689 : BitVec 1 := Scalar.cmpi .slt v687 c0_i32_405
  let c0_i32_406 : BitVec 32 := 0#32
  let v690 : BitVec 1 := Scalar.cmpi .slt v686 c0_i32_406
  let v691 : BitVec 1 := Scalar.xori v689 v690
  let c0_i32_404 : BitVec 32 := 0#32
  let v688 : BitVec 1 := Scalar.cmpi .ne v687 c0_i32_404
  let v692 : BitVec 1 := Scalar.andi v691 v688
  let v693 : BitVec 32 := Scalar.addi v687 v686
  let v694 : BitVec 32 := Scalar.select v692 v693 v687
  let c1_i32_408 : BitVec 32 := 1#32
  let v695 : BitVec 32 := Scalar.muli v694 c1_i32_408
  let v696 : BitVec 32 := Scalar.addi c0_i32_409 v695
  v696.toNat
def k0_dev10 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_410 : BitVec 32 := 10#32
  let v697 : BitVec 32 := Scalar.addi v2 c10_i32_410
  let c32_i32_411 : BitVec 32 := 32#32
  let c0_i32_412 : BitVec 32 := 0#32
  let v698 : BitVec 1 := Scalar.cmpi .eq c32_i32_411 c0_i32_412
  let c1_i32_413 : BitVec 32 := 1#32
  let v699 : BitVec 32 := Scalar.select v698 c1_i32_413 c32_i32_411
  let v700 : BitVec 32 := Scalar.remsi v697 v699
  let c0_i32_415 : BitVec 32 := 0#32
  let v702 : BitVec 1 := Scalar.cmpi .slt v700 c0_i32_415
  let c0_i32_416 : BitVec 32 := 0#32
  let v703 : BitVec 1 := Scalar.cmpi .slt v699 c0_i32_416
  let v704 : BitVec 1 := Scalar.xori v702 v703
  let c0_i32_414 : BitVec 32 := 0#32
  let v701 : BitVec 1 := Scalar.cmpi .ne v700 c0_i32_414
  let v705 : BitVec 1 := Scalar.andi v704 v701
  let v706 : BitVec 32 := Scalar.addi v700 v699
  let v707 : BitVec 32 := Scalar.select v705 v706 v700
  let c1_i32_418 : BitVec 32 := 1#32
  let v708 : BitVec 32 := Scalar.muli v707 c1_i32_418
  let v709 : BitVec 32 := Scalar.addi c0_i32_419 v708
  v709.toNat
def k0_dev11 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_420 : BitVec 32 := 11#32
  let v710 : BitVec 32 := Scalar.addi v2 c11_i32_420
  let c32_i32_421 : BitVec 32 := 32#32
  let c0_i32_422 : BitVec 32 := 0#32
  let v711 : BitVec 1 := Scalar.cmpi .eq c32_i32_421 c0_i32_422
  let c1_i32_423 : BitVec 32 := 1#32
  let v712 : BitVec 32 := Scalar.select v711 c1_i32_423 c32_i32_421
  let v713 : BitVec 32 := Scalar.remsi v710 v712
  let c0_i32_425 : BitVec 32 := 0#32
  let v715 : BitVec 1 := Scalar.cmpi .slt v713 c0_i32_425
  let c0_i32_426 : BitVec 32 := 0#32
  let v716 : BitVec 1 := Scalar.cmpi .slt v712 c0_i32_426
  let v717 : BitVec 1 := Scalar.xori v715 v716
  let c0_i32_424 : BitVec 32 := 0#32
  let v714 : BitVec 1 := Scalar.cmpi .ne v713 c0_i32_424
  let v718 : BitVec 1 := Scalar.andi v717 v714
  let v719 : BitVec 32 := Scalar.addi v713 v712
  let v720 : BitVec 32 := Scalar.select v718 v719 v713
  let c1_i32_428 : BitVec 32 := 1#32
  let v721 : BitVec 32 := Scalar.muli v720 c1_i32_428
  let v722 : BitVec 32 := Scalar.addi c0_i32_429 v721
  v722.toNat
def k0_dev12 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_430 : BitVec 32 := 12#32
  let v723 : BitVec 32 := Scalar.addi v2 c12_i32_430
  let c32_i32_431 : BitVec 32 := 32#32
  let c0_i32_432 : BitVec 32 := 0#32
  let v724 : BitVec 1 := Scalar.cmpi .eq c32_i32_431 c0_i32_432
  let c1_i32_433 : BitVec 32 := 1#32
  let v725 : BitVec 32 := Scalar.select v724 c1_i32_433 c32_i32_431
  let v726 : BitVec 32 := Scalar.remsi v723 v725
  let c0_i32_435 : BitVec 32 := 0#32
  let v728 : BitVec 1 := Scalar.cmpi .slt v726 c0_i32_435
  let c0_i32_436 : BitVec 32 := 0#32
  let v729 : BitVec 1 := Scalar.cmpi .slt v725 c0_i32_436
  let v730 : BitVec 1 := Scalar.xori v728 v729
  let c0_i32_434 : BitVec 32 := 0#32
  let v727 : BitVec 1 := Scalar.cmpi .ne v726 c0_i32_434
  let v731 : BitVec 1 := Scalar.andi v730 v727
  let v732 : BitVec 32 := Scalar.addi v726 v725
  let v733 : BitVec 32 := Scalar.select v731 v732 v726
  let c1_i32_438 : BitVec 32 := 1#32
  let v734 : BitVec 32 := Scalar.muli v733 c1_i32_438
  let v735 : BitVec 32 := Scalar.addi c0_i32_439 v734
  v735.toNat
def k0_dev13 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_440 : BitVec 32 := 13#32
  let v736 : BitVec 32 := Scalar.addi v2 c13_i32_440
  let c32_i32_441 : BitVec 32 := 32#32
  let c0_i32_442 : BitVec 32 := 0#32
  let v737 : BitVec 1 := Scalar.cmpi .eq c32_i32_441 c0_i32_442
  let c1_i32_443 : BitVec 32 := 1#32
  let v738 : BitVec 32 := Scalar.select v737 c1_i32_443 c32_i32_441
  let v739 : BitVec 32 := Scalar.remsi v736 v738
  let c0_i32_445 : BitVec 32 := 0#32
  let v741 : BitVec 1 := Scalar.cmpi .slt v739 c0_i32_445
  let c0_i32_446 : BitVec 32 := 0#32
  let v742 : BitVec 1 := Scalar.cmpi .slt v738 c0_i32_446
  let v743 : BitVec 1 := Scalar.xori v741 v742
  let c0_i32_444 : BitVec 32 := 0#32
  let v740 : BitVec 1 := Scalar.cmpi .ne v739 c0_i32_444
  let v744 : BitVec 1 := Scalar.andi v743 v740
  let v745 : BitVec 32 := Scalar.addi v739 v738
  let v746 : BitVec 32 := Scalar.select v744 v745 v739
  let c1_i32_448 : BitVec 32 := 1#32
  let v747 : BitVec 32 := Scalar.muli v746 c1_i32_448
  let v748 : BitVec 32 := Scalar.addi c0_i32_449 v747
  v748.toNat
def k0_dev14 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_450 : BitVec 32 := 14#32
  let v749 : BitVec 32 := Scalar.addi v2 c14_i32_450
  let c32_i32_451 : BitVec 32 := 32#32
  let c0_i32_452 : BitVec 32 := 0#32
  let v750 : BitVec 1 := Scalar.cmpi .eq c32_i32_451 c0_i32_452
  let c1_i32_453 : BitVec 32 := 1#32
  let v751 : BitVec 32 := Scalar.select v750 c1_i32_453 c32_i32_451
  let v752 : BitVec 32 := Scalar.remsi v749 v751
  let c0_i32_455 : BitVec 32 := 0#32
  let v754 : BitVec 1 := Scalar.cmpi .slt v752 c0_i32_455
  let c0_i32_456 : BitVec 32 := 0#32
  let v755 : BitVec 1 := Scalar.cmpi .slt v751 c0_i32_456
  let v756 : BitVec 1 := Scalar.xori v754 v755
  let c0_i32_454 : BitVec 32 := 0#32
  let v753 : BitVec 1 := Scalar.cmpi .ne v752 c0_i32_454
  let v757 : BitVec 1 := Scalar.andi v756 v753
  let v758 : BitVec 32 := Scalar.addi v752 v751
  let v759 : BitVec 32 := Scalar.select v757 v758 v752
  let c1_i32_458 : BitVec 32 := 1#32
  let v760 : BitVec 32 := Scalar.muli v759 c1_i32_458
  let v761 : BitVec 32 := Scalar.addi c0_i32_459 v760
  v761.toNat
def k0_dev15 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_460 : BitVec 32 := 15#32
  let v762 : BitVec 32 := Scalar.addi v2 c15_i32_460
  let c32_i32_461 : BitVec 32 := 32#32
  let c0_i32_462 : BitVec 32 := 0#32
  let v763 : BitVec 1 := Scalar.cmpi .eq c32_i32_461 c0_i32_462
  let c1_i32_463 : BitVec 32 := 1#32
  let v764 : BitVec 32 := Scalar.select v763 c1_i32_463 c32_i32_461
  let v765 : BitVec 32 := Scalar.remsi v762 v764
  let c0_i32_465 : BitVec 32 := 0#32
  let v767 : BitVec 1 := Scalar.cmpi .slt v765 c0_i32_465
  let c0_i32_466 : BitVec 32 := 0#32
  let v768 : BitVec 1 := Scalar.cmpi .slt v764 c0_i32_466
  let v769 : BitVec 1 := Scalar.xori v767 v768
  let c0_i32_464 : BitVec 32 := 0#32
  let v766 : BitVec 1 := Scalar.cmpi .ne v765 c0_i32_464
  let v770 : BitVec 1 := Scalar.andi v769 v766
  let v771 : BitVec 32 := Scalar.addi v765 v764
  let v772 : BitVec 32 := Scalar.select v770 v771 v765
  let c1_i32_468 : BitVec 32 := 1#32
  let v773 : BitVec 32 := Scalar.muli v772 c1_i32_468
  let v774 : BitVec 32 := Scalar.addi c0_i32_469 v773
  v774.toNat
def k0_dev16 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_470 : BitVec 32 := 16#32
  let v775 : BitVec 32 := Scalar.addi v2 c16_i32_470
  let c32_i32_471 : BitVec 32 := 32#32
  let c0_i32_472 : BitVec 32 := 0#32
  let v776 : BitVec 1 := Scalar.cmpi .eq c32_i32_471 c0_i32_472
  let c1_i32_473 : BitVec 32 := 1#32
  let v777 : BitVec 32 := Scalar.select v776 c1_i32_473 c32_i32_471
  let v778 : BitVec 32 := Scalar.remsi v775 v777
  let c0_i32_475 : BitVec 32 := 0#32
  let v780 : BitVec 1 := Scalar.cmpi .slt v778 c0_i32_475
  let c0_i32_476 : BitVec 32 := 0#32
  let v781 : BitVec 1 := Scalar.cmpi .slt v777 c0_i32_476
  let v782 : BitVec 1 := Scalar.xori v780 v781
  let c0_i32_474 : BitVec 32 := 0#32
  let v779 : BitVec 1 := Scalar.cmpi .ne v778 c0_i32_474
  let v783 : BitVec 1 := Scalar.andi v782 v779
  let v784 : BitVec 32 := Scalar.addi v778 v777
  let v785 : BitVec 32 := Scalar.select v783 v784 v778
  let c1_i32_478 : BitVec 32 := 1#32
  let v786 : BitVec 32 := Scalar.muli v785 c1_i32_478
  let v787 : BitVec 32 := Scalar.addi c0_i32_479 v786
  v787.toNat
def k0_dev17 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_480 : BitVec 32 := 17#32
  let v788 : BitVec 32 := Scalar.addi v2 c17_i32_480
  let c32_i32_481 : BitVec 32 := 32#32
  let c0_i32_482 : BitVec 32 := 0#32
  let v789 : BitVec 1 := Scalar.cmpi .eq c32_i32_481 c0_i32_482
  let c1_i32_483 : BitVec 32 := 1#32
  let v790 : BitVec 32 := Scalar.select v789 c1_i32_483 c32_i32_481
  let v791 : BitVec 32 := Scalar.remsi v788 v790
  let c0_i32_485 : BitVec 32 := 0#32
  let v793 : BitVec 1 := Scalar.cmpi .slt v791 c0_i32_485
  let c0_i32_486 : BitVec 32 := 0#32
  let v794 : BitVec 1 := Scalar.cmpi .slt v790 c0_i32_486
  let v795 : BitVec 1 := Scalar.xori v793 v794
  let c0_i32_484 : BitVec 32 := 0#32
  let v792 : BitVec 1 := Scalar.cmpi .ne v791 c0_i32_484
  let v796 : BitVec 1 := Scalar.andi v795 v792
  let v797 : BitVec 32 := Scalar.addi v791 v790
  let v798 : BitVec 32 := Scalar.select v796 v797 v791
  let c1_i32_488 : BitVec 32 := 1#32
  let v799 : BitVec 32 := Scalar.muli v798 c1_i32_488
  let v800 : BitVec 32 := Scalar.addi c0_i32_489 v799
  v800.toNat
def k0_dev18 (d0 : Dev nD) : Nat :=
  let c0_i32_499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_490 : BitVec 32 := 18#32
  let v801 : BitVec 32 := Scalar.addi v2 c18_i32_490
  let c32_i32_491 : BitVec 32 := 32#32
  let c0_i32_492 : BitVec 32 := 0#32
  let v802 : BitVec 1 := Scalar.cmpi .eq c32_i32_491 c0_i32_492
  let c1_i32_493 : BitVec 32 := 1#32
  let v803 : BitVec 32 := Scalar.select v802 c1_i32_493 c32_i32_491
  let v804 : BitVec 32 := Scalar.remsi v801 v803
  let c0_i32_495 : BitVec 32 := 0#32
  let v806 : BitVec 1 := Scalar.cmpi .slt v804 c0_i32_495
  let c0_i32_496 : BitVec 32 := 0#32
  let v807 : BitVec 1 := Scalar.cmpi .slt v803 c0_i32_496
  let v808 : BitVec 1 := Scalar.xori v806 v807
  let c0_i32_494 : BitVec 32 := 0#32
  let v805 : BitVec 1 := Scalar.cmpi .ne v804 c0_i32_494
  let v809 : BitVec 1 := Scalar.andi v808 v805
  let v810 : BitVec 32 := Scalar.addi v804 v803
  let v811 : BitVec 32 := Scalar.select v809 v810 v804
  let c1_i32_498 : BitVec 32 := 1#32
  let v812 : BitVec 32 := Scalar.muli v811 c1_i32_498
  let v813 : BitVec 32 := Scalar.addi c0_i32_499 v812
  v813.toNat
def k0_dev19 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_500 : BitVec 32 := 19#32
  let v814 : BitVec 32 := Scalar.addi v2 c19_i32_500
  let c32_i32_501 : BitVec 32 := 32#32
  let c0_i32_502 : BitVec 32 := 0#32
  let v815 : BitVec 1 := Scalar.cmpi .eq c32_i32_501 c0_i32_502
  let c1_i32_503 : BitVec 32 := 1#32
  let v816 : BitVec 32 := Scalar.select v815 c1_i32_503 c32_i32_501
  let v817 : BitVec 32 := Scalar.remsi v814 v816
  let c0_i32_505 : BitVec 32 := 0#32
  let v819 : BitVec 1 := Scalar.cmpi .slt v817 c0_i32_505
  let c0_i32_506 : BitVec 32 := 0#32
  let v820 : BitVec 1 := Scalar.cmpi .slt v816 c0_i32_506
  let v821 : BitVec 1 := Scalar.xori v819 v820
  let c0_i32_504 : BitVec 32 := 0#32
  let v818 : BitVec 1 := Scalar.cmpi .ne v817 c0_i32_504
  let v822 : BitVec 1 := Scalar.andi v821 v818
  let v823 : BitVec 32 := Scalar.addi v817 v816
  let v824 : BitVec 32 := Scalar.select v822 v823 v817
  let c1_i32_508 : BitVec 32 := 1#32
  let v825 : BitVec 32 := Scalar.muli v824 c1_i32_508
  let v826 : BitVec 32 := Scalar.addi c0_i32_509 v825
  v826.toNat
def k0_dev20 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_510 : BitVec 32 := 20#32
  let v827 : BitVec 32 := Scalar.addi v2 c20_i32_510
  let c32_i32_511 : BitVec 32 := 32#32
  let c0_i32_512 : BitVec 32 := 0#32
  let v828 : BitVec 1 := Scalar.cmpi .eq c32_i32_511 c0_i32_512
  let c1_i32_513 : BitVec 32 := 1#32
  let v829 : BitVec 32 := Scalar.select v828 c1_i32_513 c32_i32_511
  let v830 : BitVec 32 := Scalar.remsi v827 v829
  let c0_i32_515 : BitVec 32 := 0#32
  let v832 : BitVec 1 := Scalar.cmpi .slt v830 c0_i32_515
  let c0_i32_516 : BitVec 32 := 0#32
  let v833 : BitVec 1 := Scalar.cmpi .slt v829 c0_i32_516
  let v834 : BitVec 1 := Scalar.xori v832 v833
  let c0_i32_514 : BitVec 32 := 0#32
  let v831 : BitVec 1 := Scalar.cmpi .ne v830 c0_i32_514
  let v835 : BitVec 1 := Scalar.andi v834 v831
  let v836 : BitVec 32 := Scalar.addi v830 v829
  let v837 : BitVec 32 := Scalar.select v835 v836 v830
  let c1_i32_518 : BitVec 32 := 1#32
  let v838 : BitVec 32 := Scalar.muli v837 c1_i32_518
  let v839 : BitVec 32 := Scalar.addi c0_i32_519 v838
  v839.toNat
def k0_dev21 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_520 : BitVec 32 := 21#32
  let v840 : BitVec 32 := Scalar.addi v2 c21_i32_520
  let c32_i32_521 : BitVec 32 := 32#32
  let c0_i32_522 : BitVec 32 := 0#32
  let v841 : BitVec 1 := Scalar.cmpi .eq c32_i32_521 c0_i32_522
  let c1_i32_523 : BitVec 32 := 1#32
  let v842 : BitVec 32 := Scalar.select v841 c1_i32_523 c32_i32_521
  let v843 : BitVec 32 := Scalar.remsi v840 v842
  let c0_i32_525 : BitVec 32 := 0#32
  let v845 : BitVec 1 := Scalar.cmpi .slt v843 c0_i32_525
  let c0_i32_526 : BitVec 32 := 0#32
  let v846 : BitVec 1 := Scalar.cmpi .slt v842 c0_i32_526
  let v847 : BitVec 1 := Scalar.xori v845 v846
  let c0_i32_524 : BitVec 32 := 0#32
  let v844 : BitVec 1 := Scalar.cmpi .ne v843 c0_i32_524
  let v848 : BitVec 1 := Scalar.andi v847 v844
  let v849 : BitVec 32 := Scalar.addi v843 v842
  let v850 : BitVec 32 := Scalar.select v848 v849 v843
  let c1_i32_528 : BitVec 32 := 1#32
  let v851 : BitVec 32 := Scalar.muli v850 c1_i32_528
  let v852 : BitVec 32 := Scalar.addi c0_i32_529 v851
  v852.toNat
def k0_dev22 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_530 : BitVec 32 := 22#32
  let v853 : BitVec 32 := Scalar.addi v2 c22_i32_530
  let c32_i32_531 : BitVec 32 := 32#32
  let c0_i32_532 : BitVec 32 := 0#32
  let v854 : BitVec 1 := Scalar.cmpi .eq c32_i32_531 c0_i32_532
  let c1_i32_533 : BitVec 32 := 1#32
  let v855 : BitVec 32 := Scalar.select v854 c1_i32_533 c32_i32_531
  let v856 : BitVec 32 := Scalar.remsi v853 v855
  let c0_i32_535 : BitVec 32 := 0#32
  let v858 : BitVec 1 := Scalar.cmpi .slt v856 c0_i32_535
  let c0_i32_536 : BitVec 32 := 0#32
  let v859 : BitVec 1 := Scalar.cmpi .slt v855 c0_i32_536
  let v860 : BitVec 1 := Scalar.xori v858 v859
  let c0_i32_534 : BitVec 32 := 0#32
  let v857 : BitVec 1 := Scalar.cmpi .ne v856 c0_i32_534
  let v861 : BitVec 1 := Scalar.andi v860 v857
  let v862 : BitVec 32 := Scalar.addi v856 v855
  let v863 : BitVec 32 := Scalar.select v861 v862 v856
  let c1_i32_538 : BitVec 32 := 1#32
  let v864 : BitVec 32 := Scalar.muli v863 c1_i32_538
  let v865 : BitVec 32 := Scalar.addi c0_i32_539 v864
  v865.toNat
def k0_dev23 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_540 : BitVec 32 := 23#32
  let v866 : BitVec 32 := Scalar.addi v2 c23_i32_540
  let c32_i32_541 : BitVec 32 := 32#32
  let c0_i32_542 : BitVec 32 := 0#32
  let v867 : BitVec 1 := Scalar.cmpi .eq c32_i32_541 c0_i32_542
  let c1_i32_543 : BitVec 32 := 1#32
  let v868 : BitVec 32 := Scalar.select v867 c1_i32_543 c32_i32_541
  let v869 : BitVec 32 := Scalar.remsi v866 v868
  let c0_i32_545 : BitVec 32 := 0#32
  let v871 : BitVec 1 := Scalar.cmpi .slt v869 c0_i32_545
  let c0_i32_546 : BitVec 32 := 0#32
  let v872 : BitVec 1 := Scalar.cmpi .slt v868 c0_i32_546
  let v873 : BitVec 1 := Scalar.xori v871 v872
  let c0_i32_544 : BitVec 32 := 0#32
  let v870 : BitVec 1 := Scalar.cmpi .ne v869 c0_i32_544
  let v874 : BitVec 1 := Scalar.andi v873 v870
  let v875 : BitVec 32 := Scalar.addi v869 v868
  let v876 : BitVec 32 := Scalar.select v874 v875 v869
  let c1_i32_548 : BitVec 32 := 1#32
  let v877 : BitVec 32 := Scalar.muli v876 c1_i32_548
  let v878 : BitVec 32 := Scalar.addi c0_i32_549 v877
  v878.toNat
def k0_dev24 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_550 : BitVec 32 := 24#32
  let v879 : BitVec 32 := Scalar.addi v2 c24_i32_550
  let c32_i32_551 : BitVec 32 := 32#32
  let c0_i32_552 : BitVec 32 := 0#32
  let v880 : BitVec 1 := Scalar.cmpi .eq c32_i32_551 c0_i32_552
  let c1_i32_553 : BitVec 32 := 1#32
  let v881 : BitVec 32 := Scalar.select v880 c1_i32_553 c32_i32_551
  let v882 : BitVec 32 := Scalar.remsi v879 v881
  let c0_i32_555 : BitVec 32 := 0#32
  let v884 : BitVec 1 := Scalar.cmpi .slt v882 c0_i32_555
  let c0_i32_556 : BitVec 32 := 0#32
  let v885 : BitVec 1 := Scalar.cmpi .slt v881 c0_i32_556
  let v886 : BitVec 1 := Scalar.xori v884 v885
  let c0_i32_554 : BitVec 32 := 0#32
  let v883 : BitVec 1 := Scalar.cmpi .ne v882 c0_i32_554
  let v887 : BitVec 1 := Scalar.andi v886 v883
  let v888 : BitVec 32 := Scalar.addi v882 v881
  let v889 : BitVec 32 := Scalar.select v887 v888 v882
  let c1_i32_558 : BitVec 32 := 1#32
  let v890 : BitVec 32 := Scalar.muli v889 c1_i32_558
  let v891 : BitVec 32 := Scalar.addi c0_i32_559 v890
  v891.toNat
def k0_dev25 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_560 : BitVec 32 := 25#32
  let v892 : BitVec 32 := Scalar.addi v2 c25_i32_560
  let c32_i32_561 : BitVec 32 := 32#32
  let c0_i32_562 : BitVec 32 := 0#32
  let v893 : BitVec 1 := Scalar.cmpi .eq c32_i32_561 c0_i32_562
  let c1_i32_563 : BitVec 32 := 1#32
  let v894 : BitVec 32 := Scalar.select v893 c1_i32_563 c32_i32_561
  let v895 : BitVec 32 := Scalar.remsi v892 v894
  let c0_i32_565 : BitVec 32 := 0#32
  let v897 : BitVec 1 := Scalar.cmpi .slt v895 c0_i32_565
  let c0_i32_566 : BitVec 32 := 0#32
  let v898 : BitVec 1 := Scalar.cmpi .slt v894 c0_i32_566
  let v899 : BitVec 1 := Scalar.xori v897 v898
  let c0_i32_564 : BitVec 32 := 0#32
  let v896 : BitVec 1 := Scalar.cmpi .ne v895 c0_i32_564
  let v900 : BitVec 1 := Scalar.andi v899 v896
  let v901 : BitVec 32 := Scalar.addi v895 v894
  let v902 : BitVec 32 := Scalar.select v900 v901 v895
  let c1_i32_568 : BitVec 32 := 1#32
  let v903 : BitVec 32 := Scalar.muli v902 c1_i32_568
  let v904 : BitVec 32 := Scalar.addi c0_i32_569 v903
  v904.toNat
def k0_dev26 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_570 : BitVec 32 := 26#32
  let v905 : BitVec 32 := Scalar.addi v2 c26_i32_570
  let c32_i32_571 : BitVec 32 := 32#32
  let c0_i32_572 : BitVec 32 := 0#32
  let v906 : BitVec 1 := Scalar.cmpi .eq c32_i32_571 c0_i32_572
  let c1_i32_573 : BitVec 32 := 1#32
  let v907 : BitVec 32 := Scalar.select v906 c1_i32_573 c32_i32_571
  let v908 : BitVec 32 := Scalar.remsi v905 v907
  let c0_i32_575 : BitVec 32 := 0#32
  let v910 : BitVec 1 := Scalar.cmpi .slt v908 c0_i32_575
  let c0_i32_576 : BitVec 32 := 0#32
  let v911 : BitVec 1 := Scalar.cmpi .slt v907 c0_i32_576
  let v912 : BitVec 1 := Scalar.xori v910 v911
  let c0_i32_574 : BitVec 32 := 0#32
  let v909 : BitVec 1 := Scalar.cmpi .ne v908 c0_i32_574
  let v913 : BitVec 1 := Scalar.andi v912 v909
  let v914 : BitVec 32 := Scalar.addi v908 v907
  let v915 : BitVec 32 := Scalar.select v913 v914 v908
  let c1_i32_578 : BitVec 32 := 1#32
  let v916 : BitVec 32 := Scalar.muli v915 c1_i32_578
  let v917 : BitVec 32 := Scalar.addi c0_i32_579 v916
  v917.toNat
def k0_dev27 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_580 : BitVec 32 := 27#32
  let v918 : BitVec 32 := Scalar.addi v2 c27_i32_580
  let c32_i32_581 : BitVec 32 := 32#32
  let c0_i32_582 : BitVec 32 := 0#32
  let v919 : BitVec 1 := Scalar.cmpi .eq c32_i32_581 c0_i32_582
  let c1_i32_583 : BitVec 32 := 1#32
  let v920 : BitVec 32 := Scalar.select v919 c1_i32_583 c32_i32_581
  let v921 : BitVec 32 := Scalar.remsi v918 v920
  let c0_i32_585 : BitVec 32 := 0#32
  let v923 : BitVec 1 := Scalar.cmpi .slt v921 c0_i32_585
  let c0_i32_586 : BitVec 32 := 0#32
  let v924 : BitVec 1 := Scalar.cmpi .slt v920 c0_i32_586
  let v925 : BitVec 1 := Scalar.xori v923 v924
  let c0_i32_584 : BitVec 32 := 0#32
  let v922 : BitVec 1 := Scalar.cmpi .ne v921 c0_i32_584
  let v926 : BitVec 1 := Scalar.andi v925 v922
  let v927 : BitVec 32 := Scalar.addi v921 v920
  let v928 : BitVec 32 := Scalar.select v926 v927 v921
  let c1_i32_588 : BitVec 32 := 1#32
  let v929 : BitVec 32 := Scalar.muli v928 c1_i32_588
  let v930 : BitVec 32 := Scalar.addi c0_i32_589 v929
  v930.toNat
def k0_dev28 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_590 : BitVec 32 := 28#32
  let v931 : BitVec 32 := Scalar.addi v2 c28_i32_590
  let c32_i32_591 : BitVec 32 := 32#32
  let c0_i32_592 : BitVec 32 := 0#32
  let v932 : BitVec 1 := Scalar.cmpi .eq c32_i32_591 c0_i32_592
  let c1_i32_593 : BitVec 32 := 1#32
  let v933 : BitVec 32 := Scalar.select v932 c1_i32_593 c32_i32_591
  let v934 : BitVec 32 := Scalar.remsi v931 v933
  let c0_i32_595 : BitVec 32 := 0#32
  let v936 : BitVec 1 := Scalar.cmpi .slt v934 c0_i32_595
  let c0_i32_596 : BitVec 32 := 0#32
  let v937 : BitVec 1 := Scalar.cmpi .slt v933 c0_i32_596
  let v938 : BitVec 1 := Scalar.xori v936 v937
  let c0_i32_594 : BitVec 32 := 0#32
  let v935 : BitVec 1 := Scalar.cmpi .ne v934 c0_i32_594
  let v939 : BitVec 1 := Scalar.andi v938 v935
  let v940 : BitVec 32 := Scalar.addi v934 v933
  let v941 : BitVec 32 := Scalar.select v939 v940 v934
  let c1_i32_598 : BitVec 32 := 1#32
  let v942 : BitVec 32 := Scalar.muli v941 c1_i32_598
  let v943 : BitVec 32 := Scalar.addi c0_i32_599 v942
  v943.toNat
def k0_dev29 (d0 : Dev nD) : Nat :=
  let c0_i32_609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_600 : BitVec 32 := 29#32
  let v944 : BitVec 32 := Scalar.addi v2 c29_i32_600
  let c32_i32_601 : BitVec 32 := 32#32
  let c0_i32_602 : BitVec 32 := 0#32
  let v945 : BitVec 1 := Scalar.cmpi .eq c32_i32_601 c0_i32_602
  let c1_i32_603 : BitVec 32 := 1#32
  let v946 : BitVec 32 := Scalar.select v945 c1_i32_603 c32_i32_601
  let v947 : BitVec 32 := Scalar.remsi v944 v946
  let c0_i32_605 : BitVec 32 := 0#32
  let v949 : BitVec 1 := Scalar.cmpi .slt v947 c0_i32_605
  let c0_i32_606 : BitVec 32 := 0#32
  let v950 : BitVec 1 := Scalar.cmpi .slt v946 c0_i32_606
  let v951 : BitVec 1 := Scalar.xori v949 v950
  let c0_i32_604 : BitVec 32 := 0#32
  let v948 : BitVec 1 := Scalar.cmpi .ne v947 c0_i32_604
  let v952 : BitVec 1 := Scalar.andi v951 v948
  let v953 : BitVec 32 := Scalar.addi v947 v946
  let v954 : BitVec 32 := Scalar.select v952 v953 v947
  let c1_i32_608 : BitVec 32 := 1#32
  let v955 : BitVec 32 := Scalar.muli v954 c1_i32_608
  let v956 : BitVec 32 := Scalar.addi c0_i32_609 v955
  v956.toNat
def k0_dev30 (d0 : Dev nD) : Nat :=
  let c0_i32_619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_610 : BitVec 32 := 30#32
  let v957 : BitVec 32 := Scalar.addi v2 c30_i32_610
  let c32_i32_611 : BitVec 32 := 32#32
  let c0_i32_612 : BitVec 32 := 0#32
  let v958 : BitVec 1 := Scalar.cmpi .eq c32_i32_611 c0_i32_612
  let c1_i32_613 : BitVec 32 := 1#32
  let v959 : BitVec 32 := Scalar.select v958 c1_i32_613 c32_i32_611
  let v960 : BitVec 32 := Scalar.remsi v957 v959
  let c0_i32_615 : BitVec 32 := 0#32
  let v962 : BitVec 1 := Scalar.cmpi .slt v960 c0_i32_615
  let c0_i32_616 : BitVec 32 := 0#32
  let v963 : BitVec 1 := Scalar.cmpi .slt v959 c0_i32_616
  let v964 : BitVec 1 := Scalar.xori v962 v963
  let c0_i32_614 : BitVec 32 := 0#32
  let v961 : BitVec 1 := Scalar.cmpi .ne v960 c0_i32_614
  let v965 : BitVec 1 := Scalar.andi v964 v961
  let v966 : BitVec 32 := Scalar.addi v960 v959
  let v967 : BitVec 32 := Scalar.select v965 v966 v960
  let c1_i32_618 : BitVec 32 := 1#32
  let v968 : BitVec 32 := Scalar.muli v967 c1_i32_618
  let v969 : BitVec 32 := Scalar.addi c0_i32_619 v968
  v969.toNat
def k0_dev31 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_620 : BitVec 32 := 31#32
  let v970 : BitVec 32 := Scalar.addi v2 c31_i32_620
  let c32_i32_621 : BitVec 32 := 32#32
  let c0_i32_622 : BitVec 32 := 0#32
  let v971 : BitVec 1 := Scalar.cmpi .eq c32_i32_621 c0_i32_622
  let c1_i32_623 : BitVec 32 := 1#32
  let v972 : BitVec 32 := Scalar.select v971 c1_i32_623 c32_i32_621
  let v973 : BitVec 32 := Scalar.remsi v970 v972
  let c0_i32_625 : BitVec 32 := 0#32
  let v975 : BitVec 1 := Scalar.cmpi .slt v973 c0_i32_625
  let c0_i32_626 : BitVec 32 := 0#32
  let v976 : BitVec 1 := Scalar.cmpi .slt v972 c0_i32_626
  let v977 : BitVec 1 := Scalar.xori v975 v976
  let c0_i32_624 : BitVec 32 := 0#32
  let v974 : BitVec 1 := Scalar.cmpi .ne v973 c0_i32_624
  let v978 : BitVec 1 := Scalar.andi v977 v974
  let v979 : BitVec 32 := Scalar.addi v973 v972
  let v980 : BitVec 32 := Scalar.select v978 v979 v973
  let c1_i32_628 : BitVec 32 := 1#32
  let v981 : BitVec 32 := Scalar.muli v980 c1_i32_628
  let v982 : BitVec 32 := Scalar.addi c0_i32_629 v981
  v982.toNat
def k0_dev32 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_631 : BitVec 32 := 1#32
  let v983 : BitVec 32 := Scalar.addi v2 c1_i32_631
  let c32_i32_632 : BitVec 32 := 32#32
  let c0_i32_633 : BitVec 32 := 0#32
  let v984 : BitVec 1 := Scalar.cmpi .eq c32_i32_632 c0_i32_633
  let c1_i32_634 : BitVec 32 := 1#32
  let v985 : BitVec 32 := Scalar.select v984 c1_i32_634 c32_i32_632
  let v986 : BitVec 32 := Scalar.remsi v983 v985
  let c0_i32_636 : BitVec 32 := 0#32
  let v988 : BitVec 1 := Scalar.cmpi .slt v986 c0_i32_636
  let c0_i32_637 : BitVec 32 := 0#32
  let v989 : BitVec 1 := Scalar.cmpi .slt v985 c0_i32_637
  let v990 : BitVec 1 := Scalar.xori v988 v989
  let c0_i32_635 : BitVec 32 := 0#32
  let v987 : BitVec 1 := Scalar.cmpi .ne v986 c0_i32_635
  let v991 : BitVec 1 := Scalar.andi v990 v987
  let v992 : BitVec 32 := Scalar.addi v986 v985
  let v993 : BitVec 32 := Scalar.select v991 v992 v986
  let c1_i32_642 : BitVec 32 := 1#32
  let v994 : BitVec 32 := Scalar.muli v993 c1_i32_642
  let v995 : BitVec 32 := Scalar.addi c0_i32_643 v994
  v995.toNat
def k0_dev33 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_648 : BitVec 32 := 2#32
  let v1004 : BitVec 32 := Scalar.addi v2 c2_i32_648
  let c32_i32_649 : BitVec 32 := 32#32
  let c0_i32_650 : BitVec 32 := 0#32
  let v1005 : BitVec 1 := Scalar.cmpi .eq c32_i32_649 c0_i32_650
  let c1_i32_651 : BitVec 32 := 1#32
  let v1006 : BitVec 32 := Scalar.select v1005 c1_i32_651 c32_i32_649
  let v1007 : BitVec 32 := Scalar.remsi v1004 v1006
  let c0_i32_653 : BitVec 32 := 0#32
  let v1009 : BitVec 1 := Scalar.cmpi .slt v1007 c0_i32_653
  let c0_i32_654 : BitVec 32 := 0#32
  let v1010 : BitVec 1 := Scalar.cmpi .slt v1006 c0_i32_654
  let v1011 : BitVec 1 := Scalar.xori v1009 v1010
  let c0_i32_652 : BitVec 32 := 0#32
  let v1008 : BitVec 1 := Scalar.cmpi .ne v1007 c0_i32_652
  let v1012 : BitVec 1 := Scalar.andi v1011 v1008
  let v1013 : BitVec 32 := Scalar.addi v1007 v1006
  let v1014 : BitVec 32 := Scalar.select v1012 v1013 v1007
  let c1_i32_659 : BitVec 32 := 1#32
  let v1015 : BitVec 32 := Scalar.muli v1014 c1_i32_659
  let v1016 : BitVec 32 := Scalar.addi c0_i32_660 v1015
  v1016.toNat
def k0_dev34 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_665 : BitVec 32 := 3#32
  let v1025 : BitVec 32 := Scalar.addi v2 c3_i32_665
  let c32_i32_666 : BitVec 32 := 32#32
  let c0_i32_667 : BitVec 32 := 0#32
  let v1026 : BitVec 1 := Scalar.cmpi .eq c32_i32_666 c0_i32_667
  let c1_i32_668 : BitVec 32 := 1#32
  let v1027 : BitVec 32 := Scalar.select v1026 c1_i32_668 c32_i32_666
  let v1028 : BitVec 32 := Scalar.remsi v1025 v1027
  let c0_i32_670 : BitVec 32 := 0#32
  let v1030 : BitVec 1 := Scalar.cmpi .slt v1028 c0_i32_670
  let c0_i32_671 : BitVec 32 := 0#32
  let v1031 : BitVec 1 := Scalar.cmpi .slt v1027 c0_i32_671
  let v1032 : BitVec 1 := Scalar.xori v1030 v1031
  let c0_i32_669 : BitVec 32 := 0#32
  let v1029 : BitVec 1 := Scalar.cmpi .ne v1028 c0_i32_669
  let v1033 : BitVec 1 := Scalar.andi v1032 v1029
  let v1034 : BitVec 32 := Scalar.addi v1028 v1027
  let v1035 : BitVec 32 := Scalar.select v1033 v1034 v1028
  let c1_i32_676 : BitVec 32 := 1#32
  let v1036 : BitVec 32 := Scalar.muli v1035 c1_i32_676
  let v1037 : BitVec 32 := Scalar.addi c0_i32_677 v1036
  v1037.toNat
def k0_dev35 (d0 : Dev nD) : Nat :=
  let c0_i32_694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_682 : BitVec 32 := 4#32
  let v1046 : BitVec 32 := Scalar.addi v2 c4_i32_682
  let c32_i32_683 : BitVec 32 := 32#32
  let c0_i32_684 : BitVec 32 := 0#32
  let v1047 : BitVec 1 := Scalar.cmpi .eq c32_i32_683 c0_i32_684
  let c1_i32_685 : BitVec 32 := 1#32
  let v1048 : BitVec 32 := Scalar.select v1047 c1_i32_685 c32_i32_683
  let v1049 : BitVec 32 := Scalar.remsi v1046 v1048
  let c0_i32_687 : BitVec 32 := 0#32
  let v1051 : BitVec 1 := Scalar.cmpi .slt v1049 c0_i32_687
  let c0_i32_688 : BitVec 32 := 0#32
  let v1052 : BitVec 1 := Scalar.cmpi .slt v1048 c0_i32_688
  let v1053 : BitVec 1 := Scalar.xori v1051 v1052
  let c0_i32_686 : BitVec 32 := 0#32
  let v1050 : BitVec 1 := Scalar.cmpi .ne v1049 c0_i32_686
  let v1054 : BitVec 1 := Scalar.andi v1053 v1050
  let v1055 : BitVec 32 := Scalar.addi v1049 v1048
  let v1056 : BitVec 32 := Scalar.select v1054 v1055 v1049
  let c1_i32_693 : BitVec 32 := 1#32
  let v1057 : BitVec 32 := Scalar.muli v1056 c1_i32_693
  let v1058 : BitVec 32 := Scalar.addi c0_i32_694 v1057
  v1058.toNat
def k0_dev36 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_699 : BitVec 32 := 5#32
  let v1067 : BitVec 32 := Scalar.addi v2 c5_i32_699
  let c32_i32_700 : BitVec 32 := 32#32
  let c0_i32_701 : BitVec 32 := 0#32
  let v1068 : BitVec 1 := Scalar.cmpi .eq c32_i32_700 c0_i32_701
  let c1_i32_702 : BitVec 32 := 1#32
  let v1069 : BitVec 32 := Scalar.select v1068 c1_i32_702 c32_i32_700
  let v1070 : BitVec 32 := Scalar.remsi v1067 v1069
  let c0_i32_704 : BitVec 32 := 0#32
  let v1072 : BitVec 1 := Scalar.cmpi .slt v1070 c0_i32_704
  let c0_i32_705 : BitVec 32 := 0#32
  let v1073 : BitVec 1 := Scalar.cmpi .slt v1069 c0_i32_705
  let v1074 : BitVec 1 := Scalar.xori v1072 v1073
  let c0_i32_703 : BitVec 32 := 0#32
  let v1071 : BitVec 1 := Scalar.cmpi .ne v1070 c0_i32_703
  let v1075 : BitVec 1 := Scalar.andi v1074 v1071
  let v1076 : BitVec 32 := Scalar.addi v1070 v1069
  let v1077 : BitVec 32 := Scalar.select v1075 v1076 v1070
  let c1_i32_710 : BitVec 32 := 1#32
  let v1078 : BitVec 32 := Scalar.muli v1077 c1_i32_710
  let v1079 : BitVec 32 := Scalar.addi c0_i32_711 v1078
  v1079.toNat
def k0_dev37 (d0 : Dev nD) : Nat :=
  let c0_i32_728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_716 : BitVec 32 := 6#32
  let v1088 : BitVec 32 := Scalar.addi v2 c6_i32_716
  let c32_i32_717 : BitVec 32 := 32#32
  let c0_i32_718 : BitVec 32 := 0#32
  let v1089 : BitVec 1 := Scalar.cmpi .eq c32_i32_717 c0_i32_718
  let c1_i32_719 : BitVec 32 := 1#32
  let v1090 : BitVec 32 := Scalar.select v1089 c1_i32_719 c32_i32_717
  let v1091 : BitVec 32 := Scalar.remsi v1088 v1090
  let c0_i32_721 : BitVec 32 := 0#32
  let v1093 : BitVec 1 := Scalar.cmpi .slt v1091 c0_i32_721
  let c0_i32_722 : BitVec 32 := 0#32
  let v1094 : BitVec 1 := Scalar.cmpi .slt v1090 c0_i32_722
  let v1095 : BitVec 1 := Scalar.xori v1093 v1094
  let c0_i32_720 : BitVec 32 := 0#32
  let v1092 : BitVec 1 := Scalar.cmpi .ne v1091 c0_i32_720
  let v1096 : BitVec 1 := Scalar.andi v1095 v1092
  let v1097 : BitVec 32 := Scalar.addi v1091 v1090
  let v1098 : BitVec 32 := Scalar.select v1096 v1097 v1091
  let c1_i32_727 : BitVec 32 := 1#32
  let v1099 : BitVec 32 := Scalar.muli v1098 c1_i32_727
  let v1100 : BitVec 32 := Scalar.addi c0_i32_728 v1099
  v1100.toNat
def k0_dev38 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_733 : BitVec 32 := 7#32
  let v1109 : BitVec 32 := Scalar.addi v2 c7_i32_733
  let c32_i32_734 : BitVec 32 := 32#32
  let c0_i32_735 : BitVec 32 := 0#32
  let v1110 : BitVec 1 := Scalar.cmpi .eq c32_i32_734 c0_i32_735
  let c1_i32_736 : BitVec 32 := 1#32
  let v1111 : BitVec 32 := Scalar.select v1110 c1_i32_736 c32_i32_734
  let v1112 : BitVec 32 := Scalar.remsi v1109 v1111
  let c0_i32_738 : BitVec 32 := 0#32
  let v1114 : BitVec 1 := Scalar.cmpi .slt v1112 c0_i32_738
  let c0_i32_739 : BitVec 32 := 0#32
  let v1115 : BitVec 1 := Scalar.cmpi .slt v1111 c0_i32_739
  let v1116 : BitVec 1 := Scalar.xori v1114 v1115
  let c0_i32_737 : BitVec 32 := 0#32
  let v1113 : BitVec 1 := Scalar.cmpi .ne v1112 c0_i32_737
  let v1117 : BitVec 1 := Scalar.andi v1116 v1113
  let v1118 : BitVec 32 := Scalar.addi v1112 v1111
  let v1119 : BitVec 32 := Scalar.select v1117 v1118 v1112
  let c1_i32_744 : BitVec 32 := 1#32
  let v1120 : BitVec 32 := Scalar.muli v1119 c1_i32_744
  let v1121 : BitVec 32 := Scalar.addi c0_i32_745 v1120
  v1121.toNat
def k0_dev39 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_750 : BitVec 32 := 8#32
  let v1130 : BitVec 32 := Scalar.addi v2 c8_i32_750
  let c32_i32_751 : BitVec 32 := 32#32
  let c0_i32_752 : BitVec 32 := 0#32
  let v1131 : BitVec 1 := Scalar.cmpi .eq c32_i32_751 c0_i32_752
  let c1_i32_753 : BitVec 32 := 1#32
  let v1132 : BitVec 32 := Scalar.select v1131 c1_i32_753 c32_i32_751
  let v1133 : BitVec 32 := Scalar.remsi v1130 v1132
  let c0_i32_755 : BitVec 32 := 0#32
  let v1135 : BitVec 1 := Scalar.cmpi .slt v1133 c0_i32_755
  let c0_i32_756 : BitVec 32 := 0#32
  let v1136 : BitVec 1 := Scalar.cmpi .slt v1132 c0_i32_756
  let v1137 : BitVec 1 := Scalar.xori v1135 v1136
  let c0_i32_754 : BitVec 32 := 0#32
  let v1134 : BitVec 1 := Scalar.cmpi .ne v1133 c0_i32_754
  let v1138 : BitVec 1 := Scalar.andi v1137 v1134
  let v1139 : BitVec 32 := Scalar.addi v1133 v1132
  let v1140 : BitVec 32 := Scalar.select v1138 v1139 v1133
  let c1_i32_761 : BitVec 32 := 1#32
  let v1141 : BitVec 32 := Scalar.muli v1140 c1_i32_761
  let v1142 : BitVec 32 := Scalar.addi c0_i32_762 v1141
  v1142.toNat
def k0_dev40 (d0 : Dev nD) : Nat :=
  let c0_i32_779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_767 : BitVec 32 := 9#32
  let v1151 : BitVec 32 := Scalar.addi v2 c9_i32_767
  let c32_i32_768 : BitVec 32 := 32#32
  let c0_i32_769 : BitVec 32 := 0#32
  let v1152 : BitVec 1 := Scalar.cmpi .eq c32_i32_768 c0_i32_769
  let c1_i32_770 : BitVec 32 := 1#32
  let v1153 : BitVec 32 := Scalar.select v1152 c1_i32_770 c32_i32_768
  let v1154 : BitVec 32 := Scalar.remsi v1151 v1153
  let c0_i32_772 : BitVec 32 := 0#32
  let v1156 : BitVec 1 := Scalar.cmpi .slt v1154 c0_i32_772
  let c0_i32_773 : BitVec 32 := 0#32
  let v1157 : BitVec 1 := Scalar.cmpi .slt v1153 c0_i32_773
  let v1158 : BitVec 1 := Scalar.xori v1156 v1157
  let c0_i32_771 : BitVec 32 := 0#32
  let v1155 : BitVec 1 := Scalar.cmpi .ne v1154 c0_i32_771
  let v1159 : BitVec 1 := Scalar.andi v1158 v1155
  let v1160 : BitVec 32 := Scalar.addi v1154 v1153
  let v1161 : BitVec 32 := Scalar.select v1159 v1160 v1154
  let c1_i32_778 : BitVec 32 := 1#32
  let v1162 : BitVec 32 := Scalar.muli v1161 c1_i32_778
  let v1163 : BitVec 32 := Scalar.addi c0_i32_779 v1162
  v1163.toNat
def k0_dev41 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_784 : BitVec 32 := 10#32
  let v1172 : BitVec 32 := Scalar.addi v2 c10_i32_784
  let c32_i32_785 : BitVec 32 := 32#32
  let c0_i32_786 : BitVec 32 := 0#32
  let v1173 : BitVec 1 := Scalar.cmpi .eq c32_i32_785 c0_i32_786
  let c1_i32_787 : BitVec 32 := 1#32
  let v1174 : BitVec 32 := Scalar.select v1173 c1_i32_787 c32_i32_785
  let v1175 : BitVec 32 := Scalar.remsi v1172 v1174
  let c0_i32_789 : BitVec 32 := 0#32
  let v1177 : BitVec 1 := Scalar.cmpi .slt v1175 c0_i32_789
  let c0_i32_790 : BitVec 32 := 0#32
  let v1178 : BitVec 1 := Scalar.cmpi .slt v1174 c0_i32_790
  let v1179 : BitVec 1 := Scalar.xori v1177 v1178
  let c0_i32_788 : BitVec 32 := 0#32
  let v1176 : BitVec 1 := Scalar.cmpi .ne v1175 c0_i32_788
  let v1180 : BitVec 1 := Scalar.andi v1179 v1176
  let v1181 : BitVec 32 := Scalar.addi v1175 v1174
  let v1182 : BitVec 32 := Scalar.select v1180 v1181 v1175
  let c1_i32_795 : BitVec 32 := 1#32
  let v1183 : BitVec 32 := Scalar.muli v1182 c1_i32_795
  let v1184 : BitVec 32 := Scalar.addi c0_i32_796 v1183
  v1184.toNat
def k0_dev42 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_801 : BitVec 32 := 11#32
  let v1193 : BitVec 32 := Scalar.addi v2 c11_i32_801
  let c32_i32_802 : BitVec 32 := 32#32
  let c0_i32_803 : BitVec 32 := 0#32
  let v1194 : BitVec 1 := Scalar.cmpi .eq c32_i32_802 c0_i32_803
  let c1_i32_804 : BitVec 32 := 1#32
  let v1195 : BitVec 32 := Scalar.select v1194 c1_i32_804 c32_i32_802
  let v1196 : BitVec 32 := Scalar.remsi v1193 v1195
  let c0_i32_806 : BitVec 32 := 0#32
  let v1198 : BitVec 1 := Scalar.cmpi .slt v1196 c0_i32_806
  let c0_i32_807 : BitVec 32 := 0#32
  let v1199 : BitVec 1 := Scalar.cmpi .slt v1195 c0_i32_807
  let v1200 : BitVec 1 := Scalar.xori v1198 v1199
  let c0_i32_805 : BitVec 32 := 0#32
  let v1197 : BitVec 1 := Scalar.cmpi .ne v1196 c0_i32_805
  let v1201 : BitVec 1 := Scalar.andi v1200 v1197
  let v1202 : BitVec 32 := Scalar.addi v1196 v1195
  let v1203 : BitVec 32 := Scalar.select v1201 v1202 v1196
  let c1_i32_812 : BitVec 32 := 1#32
  let v1204 : BitVec 32 := Scalar.muli v1203 c1_i32_812
  let v1205 : BitVec 32 := Scalar.addi c0_i32_813 v1204
  v1205.toNat
def k0_dev43 (d0 : Dev nD) : Nat :=
  let c0_i32_830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_818 : BitVec 32 := 12#32
  let v1214 : BitVec 32 := Scalar.addi v2 c12_i32_818
  let c32_i32_819 : BitVec 32 := 32#32
  let c0_i32_820 : BitVec 32 := 0#32
  let v1215 : BitVec 1 := Scalar.cmpi .eq c32_i32_819 c0_i32_820
  let c1_i32_821 : BitVec 32 := 1#32
  let v1216 : BitVec 32 := Scalar.select v1215 c1_i32_821 c32_i32_819
  let v1217 : BitVec 32 := Scalar.remsi v1214 v1216
  let c0_i32_823 : BitVec 32 := 0#32
  let v1219 : BitVec 1 := Scalar.cmpi .slt v1217 c0_i32_823
  let c0_i32_824 : BitVec 32 := 0#32
  let v1220 : BitVec 1 := Scalar.cmpi .slt v1216 c0_i32_824
  let v1221 : BitVec 1 := Scalar.xori v1219 v1220
  let c0_i32_822 : BitVec 32 := 0#32
  let v1218 : BitVec 1 := Scalar.cmpi .ne v1217 c0_i32_822
  let v1222 : BitVec 1 := Scalar.andi v1221 v1218
  let v1223 : BitVec 32 := Scalar.addi v1217 v1216
  let v1224 : BitVec 32 := Scalar.select v1222 v1223 v1217
  let c1_i32_829 : BitVec 32 := 1#32
  let v1225 : BitVec 32 := Scalar.muli v1224 c1_i32_829
  let v1226 : BitVec 32 := Scalar.addi c0_i32_830 v1225
  v1226.toNat
def k0_dev44 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_835 : BitVec 32 := 13#32
  let v1235 : BitVec 32 := Scalar.addi v2 c13_i32_835
  let c32_i32_836 : BitVec 32 := 32#32
  let c0_i32_837 : BitVec 32 := 0#32
  let v1236 : BitVec 1 := Scalar.cmpi .eq c32_i32_836 c0_i32_837
  let c1_i32_838 : BitVec 32 := 1#32
  let v1237 : BitVec 32 := Scalar.select v1236 c1_i32_838 c32_i32_836
  let v1238 : BitVec 32 := Scalar.remsi v1235 v1237
  let c0_i32_840 : BitVec 32 := 0#32
  let v1240 : BitVec 1 := Scalar.cmpi .slt v1238 c0_i32_840
  let c0_i32_841 : BitVec 32 := 0#32
  let v1241 : BitVec 1 := Scalar.cmpi .slt v1237 c0_i32_841
  let v1242 : BitVec 1 := Scalar.xori v1240 v1241
  let c0_i32_839 : BitVec 32 := 0#32
  let v1239 : BitVec 1 := Scalar.cmpi .ne v1238 c0_i32_839
  let v1243 : BitVec 1 := Scalar.andi v1242 v1239
  let v1244 : BitVec 32 := Scalar.addi v1238 v1237
  let v1245 : BitVec 32 := Scalar.select v1243 v1244 v1238
  let c1_i32_846 : BitVec 32 := 1#32
  let v1246 : BitVec 32 := Scalar.muli v1245 c1_i32_846
  let v1247 : BitVec 32 := Scalar.addi c0_i32_847 v1246
  v1247.toNat
def k0_dev45 (d0 : Dev nD) : Nat :=
  let c0_i32_864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_852 : BitVec 32 := 14#32
  let v1256 : BitVec 32 := Scalar.addi v2 c14_i32_852
  let c32_i32_853 : BitVec 32 := 32#32
  let c0_i32_854 : BitVec 32 := 0#32
  let v1257 : BitVec 1 := Scalar.cmpi .eq c32_i32_853 c0_i32_854
  let c1_i32_855 : BitVec 32 := 1#32
  let v1258 : BitVec 32 := Scalar.select v1257 c1_i32_855 c32_i32_853
  let v1259 : BitVec 32 := Scalar.remsi v1256 v1258
  let c0_i32_857 : BitVec 32 := 0#32
  let v1261 : BitVec 1 := Scalar.cmpi .slt v1259 c0_i32_857
  let c0_i32_858 : BitVec 32 := 0#32
  let v1262 : BitVec 1 := Scalar.cmpi .slt v1258 c0_i32_858
  let v1263 : BitVec 1 := Scalar.xori v1261 v1262
  let c0_i32_856 : BitVec 32 := 0#32
  let v1260 : BitVec 1 := Scalar.cmpi .ne v1259 c0_i32_856
  let v1264 : BitVec 1 := Scalar.andi v1263 v1260
  let v1265 : BitVec 32 := Scalar.addi v1259 v1258
  let v1266 : BitVec 32 := Scalar.select v1264 v1265 v1259
  let c1_i32_863 : BitVec 32 := 1#32
  let v1267 : BitVec 32 := Scalar.muli v1266 c1_i32_863
  let v1268 : BitVec 32 := Scalar.addi c0_i32_864 v1267
  v1268.toNat
def k0_dev46 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_869 : BitVec 32 := 15#32
  let v1277 : BitVec 32 := Scalar.addi v2 c15_i32_869
  let c32_i32_870 : BitVec 32 := 32#32
  let c0_i32_871 : BitVec 32 := 0#32
  let v1278 : BitVec 1 := Scalar.cmpi .eq c32_i32_870 c0_i32_871
  let c1_i32_872 : BitVec 32 := 1#32
  let v1279 : BitVec 32 := Scalar.select v1278 c1_i32_872 c32_i32_870
  let v1280 : BitVec 32 := Scalar.remsi v1277 v1279
  let c0_i32_874 : BitVec 32 := 0#32
  let v1282 : BitVec 1 := Scalar.cmpi .slt v1280 c0_i32_874
  let c0_i32_875 : BitVec 32 := 0#32
  let v1283 : BitVec 1 := Scalar.cmpi .slt v1279 c0_i32_875
  let v1284 : BitVec 1 := Scalar.xori v1282 v1283
  let c0_i32_873 : BitVec 32 := 0#32
  let v1281 : BitVec 1 := Scalar.cmpi .ne v1280 c0_i32_873
  let v1285 : BitVec 1 := Scalar.andi v1284 v1281
  let v1286 : BitVec 32 := Scalar.addi v1280 v1279
  let v1287 : BitVec 32 := Scalar.select v1285 v1286 v1280
  let c1_i32_880 : BitVec 32 := 1#32
  let v1288 : BitVec 32 := Scalar.muli v1287 c1_i32_880
  let v1289 : BitVec 32 := Scalar.addi c0_i32_881 v1288
  v1289.toNat
def k0_dev47 (d0 : Dev nD) : Nat :=
  let c0_i32_898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_886 : BitVec 32 := 16#32
  let v1298 : BitVec 32 := Scalar.addi v2 c16_i32_886
  let c32_i32_887 : BitVec 32 := 32#32
  let c0_i32_888 : BitVec 32 := 0#32
  let v1299 : BitVec 1 := Scalar.cmpi .eq c32_i32_887 c0_i32_888
  let c1_i32_889 : BitVec 32 := 1#32
  let v1300 : BitVec 32 := Scalar.select v1299 c1_i32_889 c32_i32_887
  let v1301 : BitVec 32 := Scalar.remsi v1298 v1300
  let c0_i32_891 : BitVec 32 := 0#32
  let v1303 : BitVec 1 := Scalar.cmpi .slt v1301 c0_i32_891
  let c0_i32_892 : BitVec 32 := 0#32
  let v1304 : BitVec 1 := Scalar.cmpi .slt v1300 c0_i32_892
  let v1305 : BitVec 1 := Scalar.xori v1303 v1304
  let c0_i32_890 : BitVec 32 := 0#32
  let v1302 : BitVec 1 := Scalar.cmpi .ne v1301 c0_i32_890
  let v1306 : BitVec 1 := Scalar.andi v1305 v1302
  let v1307 : BitVec 32 := Scalar.addi v1301 v1300
  let v1308 : BitVec 32 := Scalar.select v1306 v1307 v1301
  let c1_i32_897 : BitVec 32 := 1#32
  let v1309 : BitVec 32 := Scalar.muli v1308 c1_i32_897
  let v1310 : BitVec 32 := Scalar.addi c0_i32_898 v1309
  v1310.toNat
def k0_dev48 (d0 : Dev nD) : Nat :=
  let c0_i32_915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_903 : BitVec 32 := 17#32
  let v1319 : BitVec 32 := Scalar.addi v2 c17_i32_903
  let c32_i32_904 : BitVec 32 := 32#32
  let c0_i32_905 : BitVec 32 := 0#32
  let v1320 : BitVec 1 := Scalar.cmpi .eq c32_i32_904 c0_i32_905
  let c1_i32_906 : BitVec 32 := 1#32
  let v1321 : BitVec 32 := Scalar.select v1320 c1_i32_906 c32_i32_904
  let v1322 : BitVec 32 := Scalar.remsi v1319 v1321
  let c0_i32_908 : BitVec 32 := 0#32
  let v1324 : BitVec 1 := Scalar.cmpi .slt v1322 c0_i32_908
  let c0_i32_909 : BitVec 32 := 0#32
  let v1325 : BitVec 1 := Scalar.cmpi .slt v1321 c0_i32_909
  let v1326 : BitVec 1 := Scalar.xori v1324 v1325
  let c0_i32_907 : BitVec 32 := 0#32
  let v1323 : BitVec 1 := Scalar.cmpi .ne v1322 c0_i32_907
  let v1327 : BitVec 1 := Scalar.andi v1326 v1323
  let v1328 : BitVec 32 := Scalar.addi v1322 v1321
  let v1329 : BitVec 32 := Scalar.select v1327 v1328 v1322
  let c1_i32_914 : BitVec 32 := 1#32
  let v1330 : BitVec 32 := Scalar.muli v1329 c1_i32_914
  let v1331 : BitVec 32 := Scalar.addi c0_i32_915 v1330
  v1331.toNat
def k0_dev49 (d0 : Dev nD) : Nat :=
  let c0_i32_932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_920 : BitVec 32 := 18#32
  let v1340 : BitVec 32 := Scalar.addi v2 c18_i32_920
  let c32_i32_921 : BitVec 32 := 32#32
  let c0_i32_922 : BitVec 32 := 0#32
  let v1341 : BitVec 1 := Scalar.cmpi .eq c32_i32_921 c0_i32_922
  let c1_i32_923 : BitVec 32 := 1#32
  let v1342 : BitVec 32 := Scalar.select v1341 c1_i32_923 c32_i32_921
  let v1343 : BitVec 32 := Scalar.remsi v1340 v1342
  let c0_i32_925 : BitVec 32 := 0#32
  let v1345 : BitVec 1 := Scalar.cmpi .slt v1343 c0_i32_925
  let c0_i32_926 : BitVec 32 := 0#32
  let v1346 : BitVec 1 := Scalar.cmpi .slt v1342 c0_i32_926
  let v1347 : BitVec 1 := Scalar.xori v1345 v1346
  let c0_i32_924 : BitVec 32 := 0#32
  let v1344 : BitVec 1 := Scalar.cmpi .ne v1343 c0_i32_924
  let v1348 : BitVec 1 := Scalar.andi v1347 v1344
  let v1349 : BitVec 32 := Scalar.addi v1343 v1342
  let v1350 : BitVec 32 := Scalar.select v1348 v1349 v1343
  let c1_i32_931 : BitVec 32 := 1#32
  let v1351 : BitVec 32 := Scalar.muli v1350 c1_i32_931
  let v1352 : BitVec 32 := Scalar.addi c0_i32_932 v1351
  v1352.toNat
def k0_dev50 (d0 : Dev nD) : Nat :=
  let c0_i32_949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_937 : BitVec 32 := 19#32
  let v1361 : BitVec 32 := Scalar.addi v2 c19_i32_937
  let c32_i32_938 : BitVec 32 := 32#32
  let c0_i32_939 : BitVec 32 := 0#32
  let v1362 : BitVec 1 := Scalar.cmpi .eq c32_i32_938 c0_i32_939
  let c1_i32_940 : BitVec 32 := 1#32
  let v1363 : BitVec 32 := Scalar.select v1362 c1_i32_940 c32_i32_938
  let v1364 : BitVec 32 := Scalar.remsi v1361 v1363
  let c0_i32_942 : BitVec 32 := 0#32
  let v1366 : BitVec 1 := Scalar.cmpi .slt v1364 c0_i32_942
  let c0_i32_943 : BitVec 32 := 0#32
  let v1367 : BitVec 1 := Scalar.cmpi .slt v1363 c0_i32_943
  let v1368 : BitVec 1 := Scalar.xori v1366 v1367
  let c0_i32_941 : BitVec 32 := 0#32
  let v1365 : BitVec 1 := Scalar.cmpi .ne v1364 c0_i32_941
  let v1369 : BitVec 1 := Scalar.andi v1368 v1365
  let v1370 : BitVec 32 := Scalar.addi v1364 v1363
  let v1371 : BitVec 32 := Scalar.select v1369 v1370 v1364
  let c1_i32_948 : BitVec 32 := 1#32
  let v1372 : BitVec 32 := Scalar.muli v1371 c1_i32_948
  let v1373 : BitVec 32 := Scalar.addi c0_i32_949 v1372
  v1373.toNat
def k0_dev51 (d0 : Dev nD) : Nat :=
  let c0_i32_966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_954 : BitVec 32 := 20#32
  let v1382 : BitVec 32 := Scalar.addi v2 c20_i32_954
  let c32_i32_955 : BitVec 32 := 32#32
  let c0_i32_956 : BitVec 32 := 0#32
  let v1383 : BitVec 1 := Scalar.cmpi .eq c32_i32_955 c0_i32_956
  let c1_i32_957 : BitVec 32 := 1#32
  let v1384 : BitVec 32 := Scalar.select v1383 c1_i32_957 c32_i32_955
  let v1385 : BitVec 32 := Scalar.remsi v1382 v1384
  let c0_i32_959 : BitVec 32 := 0#32
  let v1387 : BitVec 1 := Scalar.cmpi .slt v1385 c0_i32_959
  let c0_i32_960 : BitVec 32 := 0#32
  let v1388 : BitVec 1 := Scalar.cmpi .slt v1384 c0_i32_960
  let v1389 : BitVec 1 := Scalar.xori v1387 v1388
  let c0_i32_958 : BitVec 32 := 0#32
  let v1386 : BitVec 1 := Scalar.cmpi .ne v1385 c0_i32_958
  let v1390 : BitVec 1 := Scalar.andi v1389 v1386
  let v1391 : BitVec 32 := Scalar.addi v1385 v1384
  let v1392 : BitVec 32 := Scalar.select v1390 v1391 v1385
  let c1_i32_965 : BitVec 32 := 1#32
  let v1393 : BitVec 32 := Scalar.muli v1392 c1_i32_965
  let v1394 : BitVec 32 := Scalar.addi c0_i32_966 v1393
  v1394.toNat
def k0_dev52 (d0 : Dev nD) : Nat :=
  let c0_i32_983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_971 : BitVec 32 := 21#32
  let v1403 : BitVec 32 := Scalar.addi v2 c21_i32_971
  let c32_i32_972 : BitVec 32 := 32#32
  let c0_i32_973 : BitVec 32 := 0#32
  let v1404 : BitVec 1 := Scalar.cmpi .eq c32_i32_972 c0_i32_973
  let c1_i32_974 : BitVec 32 := 1#32
  let v1405 : BitVec 32 := Scalar.select v1404 c1_i32_974 c32_i32_972
  let v1406 : BitVec 32 := Scalar.remsi v1403 v1405
  let c0_i32_976 : BitVec 32 := 0#32
  let v1408 : BitVec 1 := Scalar.cmpi .slt v1406 c0_i32_976
  let c0_i32_977 : BitVec 32 := 0#32
  let v1409 : BitVec 1 := Scalar.cmpi .slt v1405 c0_i32_977
  let v1410 : BitVec 1 := Scalar.xori v1408 v1409
  let c0_i32_975 : BitVec 32 := 0#32
  let v1407 : BitVec 1 := Scalar.cmpi .ne v1406 c0_i32_975
  let v1411 : BitVec 1 := Scalar.andi v1410 v1407
  let v1412 : BitVec 32 := Scalar.addi v1406 v1405
  let v1413 : BitVec 32 := Scalar.select v1411 v1412 v1406
  let c1_i32_982 : BitVec 32 := 1#32
  let v1414 : BitVec 32 := Scalar.muli v1413 c1_i32_982
  let v1415 : BitVec 32 := Scalar.addi c0_i32_983 v1414
  v1415.toNat
def k0_dev53 (d0 : Dev nD) : Nat :=
  let c0_i32_1000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_988 : BitVec 32 := 22#32
  let v1424 : BitVec 32 := Scalar.addi v2 c22_i32_988
  let c32_i32_989 : BitVec 32 := 32#32
  let c0_i32_990 : BitVec 32 := 0#32
  let v1425 : BitVec 1 := Scalar.cmpi .eq c32_i32_989 c0_i32_990
  let c1_i32_991 : BitVec 32 := 1#32
  let v1426 : BitVec 32 := Scalar.select v1425 c1_i32_991 c32_i32_989
  let v1427 : BitVec 32 := Scalar.remsi v1424 v1426
  let c0_i32_993 : BitVec 32 := 0#32
  let v1429 : BitVec 1 := Scalar.cmpi .slt v1427 c0_i32_993
  let c0_i32_994 : BitVec 32 := 0#32
  let v1430 : BitVec 1 := Scalar.cmpi .slt v1426 c0_i32_994
  let v1431 : BitVec 1 := Scalar.xori v1429 v1430
  let c0_i32_992 : BitVec 32 := 0#32
  let v1428 : BitVec 1 := Scalar.cmpi .ne v1427 c0_i32_992
  let v1432 : BitVec 1 := Scalar.andi v1431 v1428
  let v1433 : BitVec 32 := Scalar.addi v1427 v1426
  let v1434 : BitVec 32 := Scalar.select v1432 v1433 v1427
  let c1_i32_999 : BitVec 32 := 1#32
  let v1435 : BitVec 32 := Scalar.muli v1434 c1_i32_999
  let v1436 : BitVec 32 := Scalar.addi c0_i32_1000 v1435
  v1436.toNat
def k0_dev54 (d0 : Dev nD) : Nat :=
  let c0_i32_1017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1005 : BitVec 32 := 23#32
  let v1445 : BitVec 32 := Scalar.addi v2 c23_i32_1005
  let c32_i32_1006 : BitVec 32 := 32#32
  let c0_i32_1007 : BitVec 32 := 0#32
  let v1446 : BitVec 1 := Scalar.cmpi .eq c32_i32_1006 c0_i32_1007
  let c1_i32_1008 : BitVec 32 := 1#32
  let v1447 : BitVec 32 := Scalar.select v1446 c1_i32_1008 c32_i32_1006
  let v1448 : BitVec 32 := Scalar.remsi v1445 v1447
  let c0_i32_1010 : BitVec 32 := 0#32
  let v1450 : BitVec 1 := Scalar.cmpi .slt v1448 c0_i32_1010
  let c0_i32_1011 : BitVec 32 := 0#32
  let v1451 : BitVec 1 := Scalar.cmpi .slt v1447 c0_i32_1011
  let v1452 : BitVec 1 := Scalar.xori v1450 v1451
  let c0_i32_1009 : BitVec 32 := 0#32
  let v1449 : BitVec 1 := Scalar.cmpi .ne v1448 c0_i32_1009
  let v1453 : BitVec 1 := Scalar.andi v1452 v1449
  let v1454 : BitVec 32 := Scalar.addi v1448 v1447
  let v1455 : BitVec 32 := Scalar.select v1453 v1454 v1448
  let c1_i32_1016 : BitVec 32 := 1#32
  let v1456 : BitVec 32 := Scalar.muli v1455 c1_i32_1016
  let v1457 : BitVec 32 := Scalar.addi c0_i32_1017 v1456
  v1457.toNat
def k0_dev55 (d0 : Dev nD) : Nat :=
  let c0_i32_1034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1022 : BitVec 32 := 24#32
  let v1466 : BitVec 32 := Scalar.addi v2 c24_i32_1022
  let c32_i32_1023 : BitVec 32 := 32#32
  let c0_i32_1024 : BitVec 32 := 0#32
  let v1467 : BitVec 1 := Scalar.cmpi .eq c32_i32_1023 c0_i32_1024
  let c1_i32_1025 : BitVec 32 := 1#32
  let v1468 : BitVec 32 := Scalar.select v1467 c1_i32_1025 c32_i32_1023
  let v1469 : BitVec 32 := Scalar.remsi v1466 v1468
  let c0_i32_1027 : BitVec 32 := 0#32
  let v1471 : BitVec 1 := Scalar.cmpi .slt v1469 c0_i32_1027
  let c0_i32_1028 : BitVec 32 := 0#32
  let v1472 : BitVec 1 := Scalar.cmpi .slt v1468 c0_i32_1028
  let v1473 : BitVec 1 := Scalar.xori v1471 v1472
  let c0_i32_1026 : BitVec 32 := 0#32
  let v1470 : BitVec 1 := Scalar.cmpi .ne v1469 c0_i32_1026
  let v1474 : BitVec 1 := Scalar.andi v1473 v1470
  let v1475 : BitVec 32 := Scalar.addi v1469 v1468
  let v1476 : BitVec 32 := Scalar.select v1474 v1475 v1469
  let c1_i32_1033 : BitVec 32 := 1#32
  let v1477 : BitVec 32 := Scalar.muli v1476 c1_i32_1033
  let v1478 : BitVec 32 := Scalar.addi c0_i32_1034 v1477
  v1478.toNat
def k0_dev56 (d0 : Dev nD) : Nat :=
  let c0_i32_1051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1039 : BitVec 32 := 25#32
  let v1487 : BitVec 32 := Scalar.addi v2 c25_i32_1039
  let c32_i32_1040 : BitVec 32 := 32#32
  let c0_i32_1041 : BitVec 32 := 0#32
  let v1488 : BitVec 1 := Scalar.cmpi .eq c32_i32_1040 c0_i32_1041
  let c1_i32_1042 : BitVec 32 := 1#32
  let v1489 : BitVec 32 := Scalar.select v1488 c1_i32_1042 c32_i32_1040
  let v1490 : BitVec 32 := Scalar.remsi v1487 v1489
  let c0_i32_1044 : BitVec 32 := 0#32
  let v1492 : BitVec 1 := Scalar.cmpi .slt v1490 c0_i32_1044
  let c0_i32_1045 : BitVec 32 := 0#32
  let v1493 : BitVec 1 := Scalar.cmpi .slt v1489 c0_i32_1045
  let v1494 : BitVec 1 := Scalar.xori v1492 v1493
  let c0_i32_1043 : BitVec 32 := 0#32
  let v1491 : BitVec 1 := Scalar.cmpi .ne v1490 c0_i32_1043
  let v1495 : BitVec 1 := Scalar.andi v1494 v1491
  let v1496 : BitVec 32 := Scalar.addi v1490 v1489
  let v1497 : BitVec 32 := Scalar.select v1495 v1496 v1490
  let c1_i32_1050 : BitVec 32 := 1#32
  let v1498 : BitVec 32 := Scalar.muli v1497 c1_i32_1050
  let v1499 : BitVec 32 := Scalar.addi c0_i32_1051 v1498
  v1499.toNat
def k0_dev57 (d0 : Dev nD) : Nat :=
  let c0_i32_1068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1056 : BitVec 32 := 26#32
  let v1508 : BitVec 32 := Scalar.addi v2 c26_i32_1056
  let c32_i32_1057 : BitVec 32 := 32#32
  let c0_i32_1058 : BitVec 32 := 0#32
  let v1509 : BitVec 1 := Scalar.cmpi .eq c32_i32_1057 c0_i32_1058
  let c1_i32_1059 : BitVec 32 := 1#32
  let v1510 : BitVec 32 := Scalar.select v1509 c1_i32_1059 c32_i32_1057
  let v1511 : BitVec 32 := Scalar.remsi v1508 v1510
  let c0_i32_1061 : BitVec 32 := 0#32
  let v1513 : BitVec 1 := Scalar.cmpi .slt v1511 c0_i32_1061
  let c0_i32_1062 : BitVec 32 := 0#32
  let v1514 : BitVec 1 := Scalar.cmpi .slt v1510 c0_i32_1062
  let v1515 : BitVec 1 := Scalar.xori v1513 v1514
  let c0_i32_1060 : BitVec 32 := 0#32
  let v1512 : BitVec 1 := Scalar.cmpi .ne v1511 c0_i32_1060
  let v1516 : BitVec 1 := Scalar.andi v1515 v1512
  let v1517 : BitVec 32 := Scalar.addi v1511 v1510
  let v1518 : BitVec 32 := Scalar.select v1516 v1517 v1511
  let c1_i32_1067 : BitVec 32 := 1#32
  let v1519 : BitVec 32 := Scalar.muli v1518 c1_i32_1067
  let v1520 : BitVec 32 := Scalar.addi c0_i32_1068 v1519
  v1520.toNat
def k0_dev58 (d0 : Dev nD) : Nat :=
  let c0_i32_1085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1073 : BitVec 32 := 27#32
  let v1529 : BitVec 32 := Scalar.addi v2 c27_i32_1073
  let c32_i32_1074 : BitVec 32 := 32#32
  let c0_i32_1075 : BitVec 32 := 0#32
  let v1530 : BitVec 1 := Scalar.cmpi .eq c32_i32_1074 c0_i32_1075
  let c1_i32_1076 : BitVec 32 := 1#32
  let v1531 : BitVec 32 := Scalar.select v1530 c1_i32_1076 c32_i32_1074
  let v1532 : BitVec 32 := Scalar.remsi v1529 v1531
  let c0_i32_1078 : BitVec 32 := 0#32
  let v1534 : BitVec 1 := Scalar.cmpi .slt v1532 c0_i32_1078
  let c0_i32_1079 : BitVec 32 := 0#32
  let v1535 : BitVec 1 := Scalar.cmpi .slt v1531 c0_i32_1079
  let v1536 : BitVec 1 := Scalar.xori v1534 v1535
  let c0_i32_1077 : BitVec 32 := 0#32
  let v1533 : BitVec 1 := Scalar.cmpi .ne v1532 c0_i32_1077
  let v1537 : BitVec 1 := Scalar.andi v1536 v1533
  let v1538 : BitVec 32 := Scalar.addi v1532 v1531
  let v1539 : BitVec 32 := Scalar.select v1537 v1538 v1532
  let c1_i32_1084 : BitVec 32 := 1#32
  let v1540 : BitVec 32 := Scalar.muli v1539 c1_i32_1084
  let v1541 : BitVec 32 := Scalar.addi c0_i32_1085 v1540
  v1541.toNat
def k0_dev59 (d0 : Dev nD) : Nat :=
  let c0_i32_1102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1090 : BitVec 32 := 28#32
  let v1550 : BitVec 32 := Scalar.addi v2 c28_i32_1090
  let c32_i32_1091 : BitVec 32 := 32#32
  let c0_i32_1092 : BitVec 32 := 0#32
  let v1551 : BitVec 1 := Scalar.cmpi .eq c32_i32_1091 c0_i32_1092
  let c1_i32_1093 : BitVec 32 := 1#32
  let v1552 : BitVec 32 := Scalar.select v1551 c1_i32_1093 c32_i32_1091
  let v1553 : BitVec 32 := Scalar.remsi v1550 v1552
  let c0_i32_1095 : BitVec 32 := 0#32
  let v1555 : BitVec 1 := Scalar.cmpi .slt v1553 c0_i32_1095
  let c0_i32_1096 : BitVec 32 := 0#32
  let v1556 : BitVec 1 := Scalar.cmpi .slt v1552 c0_i32_1096
  let v1557 : BitVec 1 := Scalar.xori v1555 v1556
  let c0_i32_1094 : BitVec 32 := 0#32
  let v1554 : BitVec 1 := Scalar.cmpi .ne v1553 c0_i32_1094
  let v1558 : BitVec 1 := Scalar.andi v1557 v1554
  let v1559 : BitVec 32 := Scalar.addi v1553 v1552
  let v1560 : BitVec 32 := Scalar.select v1558 v1559 v1553
  let c1_i32_1101 : BitVec 32 := 1#32
  let v1561 : BitVec 32 := Scalar.muli v1560 c1_i32_1101
  let v1562 : BitVec 32 := Scalar.addi c0_i32_1102 v1561
  v1562.toNat
def k0_dev60 (d0 : Dev nD) : Nat :=
  let c0_i32_1119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1107 : BitVec 32 := 29#32
  let v1571 : BitVec 32 := Scalar.addi v2 c29_i32_1107
  let c32_i32_1108 : BitVec 32 := 32#32
  let c0_i32_1109 : BitVec 32 := 0#32
  let v1572 : BitVec 1 := Scalar.cmpi .eq c32_i32_1108 c0_i32_1109
  let c1_i32_1110 : BitVec 32 := 1#32
  let v1573 : BitVec 32 := Scalar.select v1572 c1_i32_1110 c32_i32_1108
  let v1574 : BitVec 32 := Scalar.remsi v1571 v1573
  let c0_i32_1112 : BitVec 32 := 0#32
  let v1576 : BitVec 1 := Scalar.cmpi .slt v1574 c0_i32_1112
  let c0_i32_1113 : BitVec 32 := 0#32
  let v1577 : BitVec 1 := Scalar.cmpi .slt v1573 c0_i32_1113
  let v1578 : BitVec 1 := Scalar.xori v1576 v1577
  let c0_i32_1111 : BitVec 32 := 0#32
  let v1575 : BitVec 1 := Scalar.cmpi .ne v1574 c0_i32_1111
  let v1579 : BitVec 1 := Scalar.andi v1578 v1575
  let v1580 : BitVec 32 := Scalar.addi v1574 v1573
  let v1581 : BitVec 32 := Scalar.select v1579 v1580 v1574
  let c1_i32_1118 : BitVec 32 := 1#32
  let v1582 : BitVec 32 := Scalar.muli v1581 c1_i32_1118
  let v1583 : BitVec 32 := Scalar.addi c0_i32_1119 v1582
  v1583.toNat
def k0_dev61 (d0 : Dev nD) : Nat :=
  let c0_i32_1136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1124 : BitVec 32 := 30#32
  let v1592 : BitVec 32 := Scalar.addi v2 c30_i32_1124
  let c32_i32_1125 : BitVec 32 := 32#32
  let c0_i32_1126 : BitVec 32 := 0#32
  let v1593 : BitVec 1 := Scalar.cmpi .eq c32_i32_1125 c0_i32_1126
  let c1_i32_1127 : BitVec 32 := 1#32
  let v1594 : BitVec 32 := Scalar.select v1593 c1_i32_1127 c32_i32_1125
  let v1595 : BitVec 32 := Scalar.remsi v1592 v1594
  let c0_i32_1129 : BitVec 32 := 0#32
  let v1597 : BitVec 1 := Scalar.cmpi .slt v1595 c0_i32_1129
  let c0_i32_1130 : BitVec 32 := 0#32
  let v1598 : BitVec 1 := Scalar.cmpi .slt v1594 c0_i32_1130
  let v1599 : BitVec 1 := Scalar.xori v1597 v1598
  let c0_i32_1128 : BitVec 32 := 0#32
  let v1596 : BitVec 1 := Scalar.cmpi .ne v1595 c0_i32_1128
  let v1600 : BitVec 1 := Scalar.andi v1599 v1596
  let v1601 : BitVec 32 := Scalar.addi v1595 v1594
  let v1602 : BitVec 32 := Scalar.select v1600 v1601 v1595
  let c1_i32_1135 : BitVec 32 := 1#32
  let v1603 : BitVec 32 := Scalar.muli v1602 c1_i32_1135
  let v1604 : BitVec 32 := Scalar.addi c0_i32_1136 v1603
  v1604.toNat
def k0_dev62 (d0 : Dev nD) : Nat :=
  let c0_i32_1153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1141 : BitVec 32 := 31#32
  let v1613 : BitVec 32 := Scalar.addi v2 c31_i32_1141
  let c32_i32_1142 : BitVec 32 := 32#32
  let c0_i32_1143 : BitVec 32 := 0#32
  let v1614 : BitVec 1 := Scalar.cmpi .eq c32_i32_1142 c0_i32_1143
  let c1_i32_1144 : BitVec 32 := 1#32
  let v1615 : BitVec 32 := Scalar.select v1614 c1_i32_1144 c32_i32_1142
  let v1616 : BitVec 32 := Scalar.remsi v1613 v1615
  let c0_i32_1146 : BitVec 32 := 0#32
  let v1618 : BitVec 1 := Scalar.cmpi .slt v1616 c0_i32_1146
  let c0_i32_1147 : BitVec 32 := 0#32
  let v1619 : BitVec 1 := Scalar.cmpi .slt v1615 c0_i32_1147
  let v1620 : BitVec 1 := Scalar.xori v1618 v1619
  let c0_i32_1145 : BitVec 32 := 0#32
  let v1617 : BitVec 1 := Scalar.cmpi .ne v1616 c0_i32_1145
  let v1621 : BitVec 1 := Scalar.andi v1620 v1617
  let v1622 : BitVec 32 := Scalar.addi v1616 v1615
  let v1623 : BitVec 32 := Scalar.select v1621 v1622 v1616
  let c1_i32_1152 : BitVec 32 := 1#32
  let v1624 : BitVec 32 := Scalar.muli v1623 c1_i32_1152
  let v1625 : BitVec 32 := Scalar.addi c0_i32_1153 v1624
  v1625.toNat
def k0_off2 (d0 : Dev nD) (c0_i32_1164 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1639 : BitVec 32 := Scalar.subi v2 c0_i32_1164
  let c32_i32_1165 : BitVec 32 := 32#32
  let c0_i32_1166 : BitVec 32 := 0#32
  let v1640 : BitVec 1 := Scalar.cmpi .eq c32_i32_1165 c0_i32_1166
  let c1_i32_1167 : BitVec 32 := 1#32
  let v1641 : BitVec 32 := Scalar.select v1640 c1_i32_1167 c32_i32_1165
  let v1642 : BitVec 32 := Scalar.remsi v1639 v1641
  let c0_i32_1169 : BitVec 32 := 0#32
  let v1644 : BitVec 1 := Scalar.cmpi .slt v1642 c0_i32_1169
  let c0_i32_1170 : BitVec 32 := 0#32
  let v1645 : BitVec 1 := Scalar.cmpi .slt v1641 c0_i32_1170
  let v1646 : BitVec 1 := Scalar.xori v1644 v1645
  let c0_i32_1168 : BitVec 32 := 0#32
  let v1643 : BitVec 1 := Scalar.cmpi .ne v1642 c0_i32_1168
  let v1647 : BitVec 1 := Scalar.andi v1646 v1643
  let v1648 : BitVec 32 := Scalar.addi v1642 v1641
  let v1649 : BitVec 32 := Scalar.select v1647 v1648 v1642
  let c128_i32_1174 : BitVec 32 := 128#32
  let v1652 : BitVec 32 := Scalar.muli v1649 c128_i32_1174
  let v1653 : Index := Scalar.indexCast v1652
  let c0_1175 : Index := 0#32
  ![v1653.toNat, 0]
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Loops.lean ====
/-
# 01_k — `Loops`: the kernel's body as loops over the offset between two devices

The kernel's Python source is five loops over `d`, the offset between a device and the device it talks to, each
unrolled when the kernel was printed. This module writes the five loops down once (`body`), one definition per step
with `d` a parameter, and proves that the printed body is that sequence of loops (`cc0_body_eq`): the proof of the
kernel then reasons about one step of a loop at a time, whatever `d` is.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.SL.Sem

variable {F : FTy → Type} [FloatOps F]

/-! ## Side conditions of one step, at every offset -/

/-- Slot `d` lies inside a 32-slot scratch buffer. -/
theorem slot_inb : ∀ (d : Fin 32) (a : Fin 3), (![d.val, 0, 0] : Fin 3 → Nat) a + S1x128x128.size a ≤ S32x128x128.size a := by decide

/-- Slot `d` of a 32-slot scratch buffer, as a rectangle. -/
abbrev slotRect (d : Fin 32) : Rect S32x128x128 := Rect.unit (s := S32x128x128) ![d.val, 0, 0] S1x128x128.size (slot_inb d)

/-- A slot's rows are packed as whole rows. -/
theorem slot_packed : ∀ d : Fin 32, (slotRect d).PackedRows (EltTy.packing .bf16) := by decide

/-- A slot is whole words. -/
theorem slot_words : ∀ d : Fin 32, (slotRect d).WholeWords (EltTy.packing .bf16) := by decide

/-- Semaphore `d` lies inside a 32-semaphore array. -/
theorem sem_inb : ∀ (d : Fin 32) (a : Fin 1), (![d.val] : Fin 1 → Nat) a + S1.size a ≤ S32.size a := by decide

/-- Semaphore `d` of a 32-semaphore array. -/
abbrev semAt (s : DmaSems sig S32) (d : Fin 32) : DmaSem sig :=
  ((s.slice (Rect.unit (s := S32) ![d.val] S1.size (sem_inb d))).squeeze S_ squeezes_S1_S_).sem

/-- Slot `d` of a 32-slot buffer, as a 128 × 128 matrix. -/
abbrev slotM (b : Memref sig .tc .vmem S32x128x128 .bf16) (d : Fin 32) : Memref sig .tc .vmem S128x128 .bf16 :=
  (b.slice (slotRect d) (fun _ => rfl)).squeeze S128x128 squeezes_S1x128x128_S128x128

/-- The device `d` after device `c`, by the kernel's own integer arithmetic. -/
def devWord (c : Dev nD) (d : BitVec 32) : Nat :=
  let v2 : BitVec 32 := Scalar.remsi (Scalar.divsi (Dev.word c) 1#32) 32#32
  let m : BitVec 32 := Scalar.select (Scalar.cmpi .eq 32#32 0#32) 1#32 32#32
  let r : BitVec 32 := Scalar.remsi (Scalar.addi v2 d) m
  let neg : BitVec 1 := Scalar.andi (Scalar.xori (Scalar.cmpi .slt r 0#32) (Scalar.cmpi .slt m 0#32)) (Scalar.cmpi .ne r 0#32)
  (Scalar.addi 0#32 (Scalar.muli (Scalar.select neg (Scalar.addi r m) r) 1#32)).toNat

/-- That arithmetic is the sum modulo the number of devices. -/
theorem devWord_eq : ∀ (c : Dev nD) (d : Fin 32), devWord c (BitVec.ofNat 32 d.val) = (c + d : Fin 32).val := by decide +kernel

theorem devWord_lt (c : Dev nD) (d : Fin 32) : devWord c (BitVec.ofNat 32 d.val) < nD := by
  rw [devWord_eq]; exact (c + d : Fin 32).isLt

/-- The device `d` after `c`, as the kernel addresses it. -/
abbrev tgt (c : Dev nD) (d : Fin 32) : Dev nD := ⟨devWord c (BitVec.ofNat 32 d.val), devWord_lt c d⟩

theorem tgt_eq (c : Dev nD) (d : Fin 32) : tgt c d = (c + d : Fin 32) := Fin.ext (devWord_eq c d)

/-! ## The loops -/

/-- The effects a device's body may request. -/
abbrev KProg (F : FTy → Type) [FloatOps F] (α : Type) := Prog (TpuEff nD τ sig (Elt F) Λ₀ .tc) α

/-- Run `f` for each element of a list, in order, then `k`. -/
def each {α : Type} (f : α → KProg F PUnit) (k : KProg F PUnit) : List α → KProg F PUnit
  | [] => k
  | a :: l => f a >>= fun _ => each f k l

section Steps

variable (arg0 : Memref sig .tc .vmem S4096x128 .bf16) (arg1 : Memref sig .tc .vmem S4096x2048 .bf16)
  (arg2 : Memref sig .tc .vmem S128x2048 .f32)
  (arg3 : Memref sig .tc .vmem S32x128x128 .bf16) (harg3 : arg3.IsWhole)
  (arg4 : Memref sig .tc .vmem S32x128x128 .bf16) (harg4 : arg4.IsWhole) (arg5 : DmaSems sig S32) (arg6 : DmaSems sig S32)

/-- Copy the block of rows meant for the device `d` after `c` into slot `d` of the staging scratch. -/
def stageStep (c : Dev nD) (d : Fin 32) : KProg F PUnit := do
  let v ← Prog.lift (.load arg0 (Rect.unit (s := S4096x128) (k0_off1 c (BitVec.ofNat 32 d.val)) S128x128.size (k0_off1_inb c d)).toLoadRect (View.loadsAt_vmem h_S128x128))
  let _ ← Prog.lift (.load arg3 (slotRect d).toLoadRect (View.loadsAt_vmem h_S1x128x128))
  Prog.lift (.store arg3 (slotRect d) (k0_pay1 v) Finset.univ (View.stores_vmem h_S1x128x128 (harg3.storeExact_slice rfl _ (slot_packed d)) (fun _ => rfl)) (.inl rfl))

/-- Signal the barrier semaphore of the device `d` after `c`. -/
def signalStep (c : Dev nD) (d : Fin 32) : KProg F PUnit :=
  semSignalWord (tgt c d) (SemArray.scalar (sig.barrier 0 rfl) : Sems sig S_).sem 1#32

/-- Send slot `d` of the staging scratch to slot `d` of the receiving scratch of the device `d` after `c`. -/
def sendStep (c : Dev nD) (d : Fin 32) : KProg F PUnit :=
  Prog.lift (.enqueueDma (slotM arg3 d) (.remote (Dev.tc (tgt c d)) (slotM arg4 d) (.dma (semAt arg5 d))) (.dma (semAt arg6 d))
    ((harg3.wordExact_slice rfl _ (slot_words d)).reshape _ _) ((harg4.wordExact_slice rfl _ (slot_words d)).reshape _ _) ⟨⟨rfl, Or.inl rfl⟩, trivial⟩)

/-- The device's own block: slot 0 to slot 0, then the first product, written to the output. -/
def ownStep (c : Dev nD) : KProg F PUnit := do
  let v ← Prog.lift (.load arg3 (slotRect 0).toLoadRect (View.loadsAt_vmem h_S1x128x128))
  let _ ← Prog.lift (.load arg4 (slotRect 0).toLoadRect (View.loadsAt_vmem h_S1x128x128))
  Prog.lift (.store arg4 (slotRect 0) (k0_pay36 v) Finset.univ (View.stores_vmem h_S1x128x128 (harg4.storeExact_slice rfl _ (slot_packed 0)) (fun _ => rfl)) (.inl rfl))
  let x ← Prog.lift (.load arg4 (slotRect 0).toLoadRect (View.loadsAt_vmem h_S1x128x128))
  let w ← Prog.lift (.load arg1 (Rect.unit (s := S4096x2048) (k0_off2 c 0#32) S128x2048.size (k0_off2_inb c 0)).toLoadRect (View.loadsAt_vmem h_S128x2048))
  let _ ← Prog.lift (.load arg2 (Rect.unit (s := S128x2048) ![0, 0] S128x2048.size inb_S128x2048_S128x2048_0_0).toLoadRect (View.loadsAt_vmem h_S128x2048))
  Prog.lift (.store arg2 (Rect.unit (s := S128x2048) ![0, 0] S128x2048.size inb_S128x2048_S128x2048_0_0) (k0_pay37 x w) Finset.univ (View.stores_vmem_bits_univ h_S128x2048 rfl) (.inl rfl))

/-- Wait for the block sent by the device `d` before `c` and add its product to the output. -/
def recvStep (c : Dev nD) (d : Fin 32) : KProg F PUnit := do
  Prog.lift (.waitDma2 (semAt arg6 d) (slotM arg3 d) (slotM arg4 d) ((harg3.wordExact_slice rfl _ (slot_words d)).reshape _ _) ((harg4.wordExact_slice rfl _ (slot_words d)).reshape _ _))
  let x ← Prog.lift (.load arg4 (slotRect d).toLoadRect (View.loadsAt_vmem h_S1x128x128))
  let w ← Prog.lift (.load arg1 (Rect.unit (s := S4096x2048) (k0_off2 c (BitVec.ofNat 32 d.val)) S128x2048.size (k0_off2_inb c d)).toLoadRect (View.loadsAt_vmem h_S128x2048))
  let o ← Prog.lift (.load arg2 (Rect.unit (s := S128x2048) ![0, 0] S128x2048.size inb_S128x2048_S128x2048_0_0).toLoadRect (View.loadsAt_vmem h_S128x2048))
  let _ ← Prog.lift (.load arg2 (Rect.unit (s := S128x2048) ![0, 0] S128x2048.size inb_S128x2048_S128x2048_0_0).toLoadRect (View.loadsAt_vmem h_S128x2048))
  Prog.lift (.store arg2 (Rect.unit (s := S128x2048) ![0, 0] S128x2048.size inb_S128x2048_S128x2048_0_0) (k0_pay38 x w o) Finset.univ (View.stores_vmem_bits_univ h_S128x2048 rfl) (.inl rfl))

/-- Wait until the block sent to the device `d` after this one has left. -/
def sentStep (d : Fin 32) : KProg F PUnit :=
  Prog.lift (.waitDma2 (semAt arg5 d) (slotM arg4 d) (slotM arg3 d) ((harg4.wordExact_slice rfl _ (slot_words d)).reshape _ _) ((harg3.wordExact_slice rfl _ (slot_words d)).reshape _ _))

end Steps

/-- The offsets between a device and another, in the kernel's order. -/
def offs : List (Fin 32) := [1, 2, 3, 4, 5, 6, 7, 8, 9, 10, 11, 12, 13, 14, 15, 16, 17, 18, 19, 20, 21, 22, 23, 24, 25, 26, 27, 28, 29, 30, 31]

/-- The kernel's body as loops. -/
def body (arg0 : Memref sig .tc .vmem S4096x128 .bf16) (harg0 : arg0.IsWhole) (arg1 : Memref sig .tc .vmem S4096x2048 .bf16) (harg1 : arg1.IsWhole)
    (arg2 : Memref sig .tc .vmem S128x2048 .f32) (harg2 : arg2.IsWhole)
    (arg3 : Memref sig .tc .vmem S32x128x128 .bf16) (harg3 : arg3.IsWhole)
    (arg4 : Memref sig .tc .vmem S32x128x128 .bf16) (harg4 : arg4.IsWhole) (arg5 : DmaSems sig S32) (arg6 : DmaSems sig S32) : KProg F PUnit :=
  Prog.lift .deviceId >>= fun c =>
  each (stageStep arg0 arg3 harg3 c)
    (each (signalStep c)
      (semWaitWord (SemArray.scalar (sig.barrier 0 rfl) : Sems sig S_).sem 31#32 >>= fun _ =>
        each (sendStep arg3 harg3 arg4 harg4 arg5 arg6 c)
          (ownStep arg1 arg2 arg3 arg4 harg4 c >>= fun _ =>
            each (recvStep arg1 arg2 arg3 harg3 arg4 harg4 arg6 c)
              (each (sentStep arg3 harg3 arg4 harg4 arg5) (pure ⟨⟩) offs)
              offs)
          offs)
      offs)
    (0 :: offs)

set_option maxRecDepth 65536 in
/-- The printed body is the loops, by unfolding. -/
theorem cc0_body_eq : cc0_body (F := F) = body (F := F) := rfl

end Cert.KernelIdealProof

end
-- ==== Proof.Sched.lean ====
/-
# 01_k — `Sched`: the protocol of the all-to-all exchange

Devices are numbered modulo 32. Device `c` sends slot `d` of its staging scratch to slot `d` of the receiving scratch of
device `c + d`, for every `d ≠ 0`. Before sending it signals the barrier semaphore of every other device and waits for 31
signals on its own.

The proof follows each semaphore by a one-round schedule:

* the barrier of device `t` gets one unit from each device `t - d`, which hands over slot `-d` of its own receiving scratch
  (the slot `t` will write to);
* the send semaphore `d` of device `c` gets the size of a slot when the sent slot has left, and the slot comes back;
* the receive semaphore `d` of device `c` gets the size of a slot when the slot has arrived, with its contents.

The module also says what each buffer holds: `staged`, `gathered` and the partial sums of the output.
-/
module

public import proofs.«01_k».proof.Proof.Loops
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Algebra.Group.Fin.Basic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- The exchange's ghost state: a duty is named by an offset. -/
abbrev UX : Type := URounds (GSem nD τ sig) (Fin 32)
/-- The pipeline library's ghost state beside it. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## Buffers and cells -/

abbrev xM : Memref sig .tc .vmem S4096x128 .bf16 := Memref.whole cc0_stg0_0
abbrev wM : Memref sig .tc .vmem S4096x2048 .bf16 := Memref.whole cc0_stg1_0
abbrev oM : Memref sig .tc .vmem S128x2048 .f32 := Memref.whole cc0_stg2_0
abbrev sM : Memref sig .tc .vmem S32x128x128 .bf16 := Memref.whole cc0_scratch0
abbrev gM : Memref sig .tc .vmem S32x128x128 .bf16 := Memref.whole cc0_scratch1

abbrev barS : Sem sig := (SemArray.scalar (sig.barrier 0 rfl) : Sems sig S_).sem
abbrev sendS (d : Fin 32) : DmaSem sig := semAt cc0_scratch2 d
abbrev recvS (d : Fin 32) : DmaSem sig := semAt cc0_scratch3 d

abbrev barCell (c : Dev nD) : GSem nD τ sig := ((c : Thread nD τ), .reg barS)
abbrev sendCell (c : Dev nD) (d : Fin 32) : GSem nD τ sig := ((c : Thread nD τ), .dma (sendS d))
abbrev recvCell (c : Dev nD) (d : Fin 32) : GSem nD τ sig := ((c : Thread nD τ), .dma (recvS d))

/-- The device `d` after `c`. -/
abbrev fwd (c : Dev nD) (d : Fin 32) : Dev nD := (c + d : Fin 32)
/-- The device `d` before `c`. -/
abbrev bwd (c : Dev nD) (d : Fin 32) : Dev nD := (c - d : Fin 32)

theorem sendS_val : ∀ d : Fin 32, (sendS d).val = d.val + 3 := by decide
theorem recvS_val : ∀ d : Fin 32, (recvS d).val = d.val + 35 := by decide

/-- The offset a transfer semaphore belongs to. -/
def offOf (q : DmaSem sig) : Fin 32 := ⟨(q.val + 29) % 32, Nat.mod_lt _ (by decide)⟩

theorem offOf_send (d : Fin 32) : offOf (sendS d) = d :=
  Fin.ext (by show ((sendS d).val + 29) % 32 = d.val; rw [sendS_val]; omega)
theorem offOf_recv (d : Fin 32) : offOf (recvS d) = d :=
  Fin.ext (by show ((recvS d).val + 29) % 32 = d.val; rw [recvS_val]; omega)

/-- A slot's size, in units of a transfer semaphore. -/
abbrev N : ℕ := (slotM gM 0).view.dmaCredit
theorem N_pos : 0 < N := View.dmaCredit_pos _ (by decide)

/-! ## Contents -/

variable (m : (ℓ : Loc nD τ sig) → Buf (Elt F) ℓ)

/-- The device's block of `x`, as it is staged. -/
def xIn (c : Dev nD) : (cc0_stg0_0 : Ref sig .tc).ty.Contents (Elt F) :=
  (win0_0.blk (0 : Fin 1)).view.read (Elt F) (m ((c : Thread nD τ).loc main_arg0))
/-- The device's copy of `w`, as it is staged. -/
def wIn (c : Dev nD) : (cc0_stg1_0 : Ref sig .tc).ty.Contents (Elt F) :=
  (win0_1.blk (0 : Fin 1)).view.read (Elt F) (m ((c : Thread nD τ).loc main_arg1))

/-- The slot of an entry. -/
abbrev slotOf (i : S32x128x128.Idx) : Fin 32 := i 0
/-- Where entry `i` of device `c`'s staging scratch comes from: slot `d` is block `c + d` of the rows. -/
def srcIdx (c : Dev nD) (i : S32x128x128.Idx) : S4096x128.Idx
  | ⟨0, _⟩ => ⟨128 * (fwd c (slotOf i)).val + (i 1).val, by
      have h1 : (fwd c (slotOf i)).val < 32 := (fwd c (slotOf i)).isLt
      have h2 : (i 1).val < 128 := (i 1).isLt
      show _ < 4096; omega⟩
  | ⟨1, _⟩ => i 2

/-- The staging scratch of device `c`, filled. -/
def staged (c : Dev nD) : (cc0_scratch0 : Ref sig .tc).ty.Contents (Elt F) := fun i => xIn m c (srcIdx c i)
/-- The receiving scratch of device `c`, filled: slot `d` comes from device `c - d`. -/
def gathered (c : Dev nD) : (cc0_scratch1 : Ref sig .tc).ty.Contents (Elt F) := fun i => staged m (bwd c (slotOf i)) i

/-- Slot `d` of the receiving scratch as the kernel loads it. -/
def gSlot (c : Dev nD) (d : Fin 32) : Vec F S1x128x128 .bf16 := gM.view.readAt (Elt F) (slotRect d).toLoadRect (gathered m c)
/-- The rows of `w` that go with slot `d`, as the kernel loads them. -/
def wRows (c : Dev nD) (d : Fin 32) : Vec F S128x2048 .bf16 :=
  wM.view.readAt (Elt F) (Rect.unit (s := S4096x2048) (k0_off2 c (BitVec.ofNat 32 d.val)) S128x2048.size (k0_off2_inb c d)).toLoadRect (wIn m c)

/-- One step of the output: the sum so far plus slot `d`'s product. -/
def addSlot (c : Dev nD) (o : Vec F S128x2048 .f32) (d : Fin 32) : Vec F S128x2048 .f32 := k0_pay38 (gSlot m c d) (wRows m c d) o
/-- The output after the device's own block. -/
def ownOut (c : Dev nD) : Vec F S128x2048 .f32 := k0_pay37 (gSlot m c 0) (wRows m c 0)
/-- The output of device `c`. -/
def outOf (c : Dev nD) : (cc0_stg2_0 : Ref sig .tc).ty.Contents (Elt F) := offs.foldl (addSlot m c) (ownOut m c)

/-! ## Slots -/

/-- Entry `i` lies in slot `d` exactly when its first coordinate is `d`. -/
theorem mem_slot (d : Fin 32) (i : S32x128x128.Idx) : i ∈ (slotRect d).set ↔ slotOf i = d := by
  rw [Rect.mem_set_unit]
  constructor
  · intro h
    have h0 := h (0 : Fin 3)
    have h1 : d.val ≤ (slotOf i).val := h0.1
    have h2 : (slotOf i).val < d.val + 1 := h0.2
    clear h h0
    exact Fin.ext (by omega)
  · rintro rfl a
    match a with
    | ⟨0, _⟩ => exact ⟨Nat.le_refl _, Nat.lt_succ_self _⟩
    | ⟨1, _⟩ => exact ⟨Nat.zero_le _, by have : (i 1).val < 128 := (i 1).isLt; show (i 1).val < 0 + 128; omega⟩
    | ⟨2, _⟩ => exact ⟨Nat.zero_le _, by have : (i 2).val < 128 := (i 2).isLt; show (i 2).val < 0 + 128; omega⟩

theorem slot_disjoint (d d' : Fin 32) (h : d ≠ d') : Disjoint (slotRect d).set (slotRect d').set :=
  Finset.disjoint_left.mpr fun i hi hi' => h (((mem_slot d i).mp hi).symm.trans ((mem_slot d' i).mp hi'))

theorem slot_cover : (Finset.univ : Finset (Fin 32)).biUnion (fun d => (slotRect d).set) = Finset.univ :=
  Finset.eq_univ_iff_forall.mpr fun i => Finset.mem_biUnion.mpr ⟨slotOf i, Finset.mem_univ _, (mem_slot _ i).mpr rfl⟩

omit [FloatOps F] in
theorem sSlot_set (d : Fin 32) : (slotM sM d).view.set = (slotRect d).set :=
  (View.set_reshape _ _).trans (View.set_slice_whole _ _)
omit [FloatOps F] in
theorem gSlot_set (d : Fin 32) : (slotM gM d).view.set = (slotRect d).set :=
  (View.set_reshape _ _).trans (View.set_slice_whole _ _)

/-- Slot `d` of device `c`'s staging scratch, holding what `f` holds there. -/
def sPts (c : Dev nD) (d : Fin 32) (f : (cc0_scratch0 : Ref sig .tc).ty.Contents (Elt F)) : sProp 𝕄 :=
  ((c : Thread nD τ).loc cc0_scratch0) ↦[(slotRect d).set]{fullShare} f
/-- Slot `d` of device `c`'s receiving scratch, holding what `f` holds there. -/
def gPts (c : Dev nD) (d : Fin 32) (f : (cc0_scratch1 : Ref sig .tc).ty.Contents (Elt F)) : sProp 𝕄 :=
  ((c : Thread nD τ).loc cc0_scratch1) ↦[(slotRect d).set]{fullShare} f

omit [FloatOps F] in
instance sPts_storable (c : Dev nD) (d : Fin 32) (f) : BI.Storable (upEmb : UEmb _ 𝕄) (sPts (F := F) c d f) := by unfold sPts; infer_instance
omit [FloatOps F] in
instance gPts_storable (c : Dev nD) (d : Fin 32) (f) : BI.Storable (upEmb : UEmb _ 𝕄) (gPts (F := F) c d f) := by unfold gPts; infer_instance

/-! ## The schedule -/

/-- What the device `d` before `t` hands to `t` with its signal: the slot of its own receiving scratch that `t` writes. -/
def barPay (t : Dev nD) (d : Fin 32) : sProp 𝕄 :=
  iprop((∃ f, gPts (bwd t d) (-d) f) ∗ reached EX (recvCell (bwd t d) (-d)) 0)
/-- What a finished send hands back: the slot that was sent. -/
def sendPay (c : Dev nD) (d : Fin 32) : sProp 𝕄 := sPts c d (staged m c)
/-- What an arrival hands over: the slot, filled. -/
def recvPay (c : Dev nD) (d : Fin 32) : sProp 𝕄 := gPts c d (gathered m c)

/-- The schedule of the exchange's semaphores: one round. -/
def sched : Rounds.Schedule (GSem nD τ sig) (Fin 32) 𝕄 where
  duties g r := if r = 0 then (match g.2 with
    | .reg _ => Finset.univ.erase 0
    | .dma q => if offOf q = 0 then ∅ else {0}) else ∅
  unitless _ := False
  amount g _ _ := match g.2 with
    | .reg _ => 1
    | .dma _ => N
  payload g _ d := match g.2 with
    | .reg _ => barPay g.1.1 d
    | .dma q => if q.val < 35 then sendPay m g.1.1 (offOf q) else recvPay m g.1.1 (offOf q)
  amount_pos g _ _ _ := by
    obtain ⟨t, sm⟩ := g
    cases sm with
    | reg _ => exact Nat.one_pos
    | dma _ => exact N_pos

instance sched_storable (g : GSem nD τ sig) (r : ℕ) (d : Fin 32) : BI.Storable (upEmb : UEmb _ 𝕄) ((sched (F := F) m).payload g r d) := by
  obtain ⟨t, sm⟩ := g
  cases sm with
  | reg s => show BI.Storable upEmb (barPay t.1 d); unfold barPay; infer_instance
  | dma q =>
    show BI.Storable upEmb (if q.val < 35 then sendPay m t.1 (offOf q) else recvPay m t.1 (offOf q))
    unfold sendPay recvPay
    split <;> infer_instance

section Sched
variable (c : Dev nD) (d : Fin 32)

omit [FloatOps F] in
theorem duties_bar : (sched (F := F) m).duties (barCell c) 0 = Finset.univ.erase 0 := rfl
omit [FloatOps F] in
theorem duties_send (h : d ≠ 0) : (sched (F := F) m).duties (sendCell c d) 0 = {0} := by
  show (if offOf (sendS d) = 0 then (∅ : Finset (Fin 32)) else {0}) = {0}
  rw [offOf_send, if_neg h]
omit [FloatOps F] in
theorem duties_recv (h : d ≠ 0) : (sched (F := F) m).duties (recvCell c d) 0 = {0} := by
  show (if offOf (recvS d) = 0 then (∅ : Finset (Fin 32)) else {0}) = {0}
  rw [offOf_recv, if_neg h]
omit [FloatOps F] in
theorem duties_later (g : GSem nD τ sig) : ∀ r, 1 ≤ r → (sched (F := F) m).duties g r = ∅ :=
  fun r hr => if_neg (by omega)
omit [FloatOps F] in
theorem duties_send_zero : ∀ r, 0 ≤ r → (sched (F := F) m).duties (sendCell c 0) r = ∅ := fun r _ => by
  show (if r = 0 then (if offOf (sendS 0) = 0 then (∅ : Finset (Fin 32)) else {0}) else ∅) = ∅
  rw [offOf_send, if_pos rfl, ite_self]
omit [FloatOps F] in
theorem duties_recv_zero : ∀ r, 0 ≤ r → (sched (F := F) m).duties (recvCell c 0) r = ∅ := fun r _ => by
  show (if r = 0 then (if offOf (recvS 0) = 0 then (∅ : Finset (Fin 32)) else {0}) else ∅) = ∅
  rw [offOf_recv, if_pos rfl, ite_self]

omit [FloatOps F] in
theorem expect_bar : (sched (F := F) m).expect (barCell c) 0 = 31 := by
  unfold Schedule.expect Schedule.amountOf
  rw [duties_bar]
  exact (Finset.sum_congr rfl fun d _ => show (sched (F := F) m).amount (barCell c) 0 d = 1 from rfl).trans (by decide)
omit [FloatOps F] in
theorem expect_send (h : d ≠ 0) : (sched (F := F) m).expect (sendCell c d) 0 = N := by
  unfold Schedule.expect Schedule.amountOf; rw [duties_send m c d h, Finset.sum_singleton]; rfl
omit [FloatOps F] in
theorem expect_recv (h : d ≠ 0) : (sched (F := F) m).expect (recvCell c d) 0 = N := by
  unfold Schedule.expect Schedule.amountOf; rw [duties_recv m c d h, Finset.sum_singleton]; rfl

omit [FloatOps F] in
theorem payload_send (e : Fin 32) : (sched (F := F) m).payload (sendCell c d) 0 e = sendPay m c d := by
  show (if (sendS d).val < 35 then sendPay m c (offOf (sendS d)) else recvPay m c (offOf (sendS d))) = _
  rw [if_pos (by rw [sendS_val]; omega), offOf_send]
omit [FloatOps F] in
theorem payload_recv (e : Fin 32) : (sched (F := F) m).payload (recvCell c d) 0 e = recvPay m c d := by
  show (if (recvS d).val < 35 then sendPay m c (offOf (recvS d)) else recvPay m c (offOf (recvS d))) = _
  rw [if_neg (by rw [recvS_val]; omega), offOf_recv]

omit [FloatOps F] in
/-- A finished send hands back its slot and nothing else. -/
theorem rest_send (h : d ≠ 0) : bigSep ((sched (F := F) m).duties (sendCell c d) 0 \ ∅) (fun e => (sched (F := F) m).payload (sendCell c d) 0 e) = sendPay m c d := by
  rw [Finset.sdiff_empty, duties_send m c d h, bigSep_singleton, payload_send]
omit [FloatOps F] in
/-- An arrival hands over its slot and nothing else. -/
theorem rest_recv (h : d ≠ 0) : bigSep ((sched (F := F) m).duties (recvCell c d) 0 \ ∅) (fun e => (sched (F := F) m).payload (recvCell c d) 0 e) = recvPay m c d := by
  rw [Finset.sdiff_empty, duties_recv m c d h, bigSep_singleton, payload_recv]

omit [FloatOps F] in
/-- An iterated conjunction over the non-zero offsets, each offset negated. -/
theorem bigSep_neg (Φ : Fin 32 → sProp 𝕄) : bigSep (Finset.univ.erase 0) Φ = bigSep (Finset.univ.erase 0) (fun d => Φ (-d)) := by
  have h : (Finset.univ.erase (0 : Fin 32)) = (Finset.univ.erase (0 : Fin 32)).map (Equiv.neg (Fin 32)).toEmbedding := by decide
  conv_lhs => rw [h]
  rw [bigSep_map]; rfl

omit [FloatOps F] in
/-- A full barrier hands over, for every offset `d`, slot `d` of the receiving scratch of the device `d` after. -/
theorem rest_bar : bigSep ((sched (F := F) m).duties (barCell c) 0 \ ∅) (fun e => (sched (F := F) m).payload (barCell c) 0 e)
    = bigSep (Finset.univ.erase 0) (fun d : Fin 32 => iprop((∃ f, gPts (F := F) (fwd c d) d f) ∗ reached EX (recvCell (fwd c d) d) 0)) := by
  rw [Finset.sdiff_empty, duties_bar]
  refine (bigSep_neg _).trans (bigSep_congr fun d _ => ?_)
  show barPay c (-d) = _
  unfold barPay
  rw [show bwd c (-d) = fwd c d from sub_neg_eq_add (α := Fin 32) c d, neg_neg]

end Sched

/-! ## What a device owes, and the order of waiting -/

/-- The slots device `c` still owes: those of the offsets in `l`. -/
def owedSlots (c : Dev nD) (l : List (Fin 32)) : CellTallies nD τ sig Unit := (l.map fun d => tallyAt (recvCell (fwd c d) d) () N).sum
/-- The signals device `c` still owes: those of the offsets in `l`. -/
def owedSignals (c : Dev nD) (l : List (Fin 32)) : CellTallies nD τ sig Unit := (l.map fun d => tallyAt (barCell (fwd c d)) () 1).sum
/-- What device `c` owes at the start. -/
def owed₀ (c : Dev nD) : CellTallies nD τ sig Unit := owedSlots c offs + owedSignals c offs

theorem owedSlots_cons (c : Dev nD) (d : Fin 32) (l : List (Fin 32)) :
    owedSlots c (d :: l) = owedSlots c l + tallyAt (recvCell (fwd c d) d) () N := by
  unfold owedSlots; rw [List.map_cons, List.sum_cons, add_comm]
theorem owedSignals_cons (c : Dev nD) (d : Fin 32) (l : List (Fin 32)) :
    owedSignals c (d :: l) = owedSignals c l + tallyAt (barCell (fwd c d)) () 1 := by
  unfold owedSignals; rw [List.map_cons, List.sum_cons, add_comm]

/-- A sum of tallies is positive only at one of its cells. -/
theorem tally_sum_pos {k : ℕ} {f : Fin 32 → GSem nD τ sig} {l : List (Fin 32)} {g : GSem nD τ sig} {u : Unit}
    (h : 0 < ((l.map fun d => tallyAt (f d) () k).sum : CellTallies nD τ sig Unit) g u) : ∃ d, g = f d := by
  induction l with
  | nil => exact absurd h (Nat.lt_irrefl 0)
  | cons a l ih =>
    rw [List.map_cons, List.sum_cons, Pi.add_apply, Finsupp.add_apply, tallyAt_apply] at h
    by_cases hg : g = f a
    · exact ⟨a, hg⟩
    · rw [if_neg (fun h' => hg h'.1), Nat.zero_add] at h
      exact ih h

/-- Cells that take part: those of TensorCore threads. -/
def lvSet (g : GSem nD τ sig) : Finset Unit := if g.1.2 = .tc then {()} else ∅
/-- The order of waiting: barriers below receive semaphores, everything else below both. -/
def lv (g : GSem nD τ sig) (_ : Unit) : ℕ := match g.2 with
  | .reg _ => 1
  | .dma q => if 35 ≤ q.val then 2 else 0

theorem lvSet_of_ne (g : GSem nD τ sig) (h : g.1.2 ≠ .tc) : lvSet g = ∅ := if_neg h
theorem mem_lvSet (c : Dev nD) (sm : SemLoc sig) (u : Unit) : u ∈ lvSet ((c : Thread nD τ), sm) := by
  rw [show lvSet ((c : Thread nD τ), sm) = {()} from if_pos rfl]; exact Finset.mem_singleton_self _
theorem lv_bar (c : Dev nD) (u : Unit) : lv (barCell c) u = 1 := rfl
theorem lv_recv (c : Dev nD) (d : Fin 32) (u : Unit) : lv (recvCell c d) u = 2 := if_pos (by rw [recvS_val]; omega)

theorem owedSlots_pos {c : Dev nD} {l : List (Fin 32)} {g : GSem nD τ sig} {u : Unit} (h : 0 < owedSlots c l g u) :
    ∃ d, g = recvCell (fwd c d) d := tally_sum_pos h
theorem owedSignals_pos {c : Dev nD} {l : List (Fin 32)} {g : GSem nD τ sig} {u : Unit} (h : 0 < owedSignals c l g u) :
    ∃ d, g = barCell (fwd c d) := tally_sum_pos h
theorem owed₀_pos {c : Dev nD} {g : GSem nD τ sig} {u : Unit} (h : 0 < owed₀ c g u) :
    (∃ d, g = recvCell (fwd c d) d) ∨ ∃ d, g = barCell (fwd c d) := by
  unfold owed₀ at h
  rw [Pi.add_apply, Finsupp.add_apply] at h
  rcases Nat.eq_zero_or_pos (owedSlots c offs g u) with h0 | h0
  · rw [h0, Nat.zero_add] at h; exact .inr (owedSignals_pos h)
  · exact .inl (owedSlots_pos h0)

omit [FloatOps F] in
/-- Waiting for a staging copy is allowed, whatever the kernel owes. -/
theorem mayWait_stage (c : Dev nD) (q : DmaSem sig) (hq : q.val < 35) (O : CellTallies nD τ sig Unit) (hO : O = owed₀ c ∨ O = 0) :
    (levAts lvSet lv : sProp 𝕄) ⊢ MayWait (c : Thread nD τ) (.dma q) () O := by
  rcases hO with rfl | rfl
  · refine MayOwe.of_cut (L := lvSet) (lev := lv) 0 (fun p hp => by rw [Finset.mem_singleton.mp hp]; exact mem_lvSet _ _ _)
      (fun g u hg => by rcases owed₀_pos hg with ⟨d, rfl⟩ | ⟨d, rfl⟩ <;> exact mem_lvSet _ _ _)
      (fun p hp => by
        rw [Finset.mem_singleton.mp hp]
        exact Nat.le_of_eq (if_neg (by omega)))
      (fun g u hg => by
        rcases owed₀_pos hg with ⟨d, rfl⟩ | ⟨d, rfl⟩
        · rw [lv_recv]; decide
        · rw [lv_bar]; decide)
  · rw [MayWait_zero]; iintro -; iempintro

omit [FloatOps F] in
/-- At the barrier wait a device owes slots only, and their semaphores are above the barriers. -/
theorem mayWait_bar (c : Dev nD) : (levAts lvSet lv : sProp 𝕄) ⊢ MayWait (c : Thread nD τ) (.reg barS) () (owedSlots c offs) :=
  MayOwe.of_cut (L := lvSet) (lev := lv) 1 (fun p hp => by rw [Finset.mem_singleton.mp hp]; exact mem_lvSet _ _ _)
    (fun g u hg => by obtain ⟨d, rfl⟩ := owedSlots_pos hg; exact mem_lvSet _ _ _)
    (fun p hp => by rw [Finset.mem_singleton.mp hp]; exact Nat.le_refl 1)
    (fun g u hg => by obtain ⟨d, rfl⟩ := owedSlots_pos hg; rw [lv_recv]; decide)

/-! ## Names of the cells -/

/-- The kernel's own semaphores: sends and receives. -/
abbrev ownSem : Fin 32 ⊕ Fin 32 → SemLoc sig
  | .inl d => .dma (sendS d)
  | .inr d => .dma (recvS d)
/-- A device's cells: the barrier, the sends and the receives. -/
abbrev cellSem : Unit ⊕ (Fin 32 ⊕ Fin 32) → SemLoc sig
  | .inl _ => .reg barS
  | .inr k => ownSem k
/-- All cells of all devices. -/
abbrev cellAt (p : Dev nD × (Unit ⊕ (Fin 32 ⊕ Fin 32))) : GSem nD τ sig := ((p.1 : Thread nD τ), cellSem p.2)

/-- The invariants of all cells, under the names `K`, and that each is at round 0 at least. -/
def records (K : Dev nD × (Unit ⊕ (Fin 32 ⊕ Fin 32)) → ℕ) : sProp 𝕄 :=
  iprop((bigSep Finset.univ fun p => cellInv EX (sched m) (K p) (cellAt p)) ∗ bigSep Finset.univ fun p => reached EX (cellAt p) 0)

instance records_persistent (K : Dev nD × (Unit ⊕ (Fin 32 ⊕ Fin 32)) → ℕ) : BI.Persistent (records m K) := by unfold records; infer_instance

omit [FloatOps F] in
theorem records_inv (K : Dev nD × (Unit ⊕ (Fin 32 ⊕ Fin 32)) → ℕ) (p : Dev nD × (Unit ⊕ (Fin 32 ⊕ Fin 32))) :
    records m K ⊢ cellInv EX (sched m) (K p) (cellAt p) := by
  unfold records
  iintro ⟨H, -⟩
  iapply (show (bigSep Finset.univ fun p => (cellInv EX (sched m) (K p) (cellAt p) : sProp 𝕄)) ⊢ cellInv EX (sched m) (K p) (cellAt p) from
    bigSep_elim (Finset.mem_univ p)); iexact H
omit [FloatOps F] in
theorem records_reached (K : Dev nD × (Unit ⊕ (Fin 32 ⊕ Fin 32)) → ℕ) (p : Dev nD × (Unit ⊕ (Fin 32 ⊕ Fin 32))) :
    records m K ⊢ reached EX (cellAt p) 0 := by
  unfold records
  iintro ⟨-, H⟩
  iapply (show (bigSep Finset.univ fun p => (reached EX (cellAt p) 0 : sProp 𝕄)) ⊢ reached EX (cellAt p) 0 from bigSep_elim (Finset.mem_univ p))
  iexact H

/-- A device's positions at the start: round 0 of each of its cells. -/
def positions (c : Dev nD) : sProp 𝕄 :=
  iprop(atPos EX (barCell c) 0 ∅ 0 ∗ (bigSep Finset.univ fun d => atPos EX (sendCell c d) 0 ∅ 0) ∗ bigSep Finset.univ fun d => atPos EX (recvCell c d) 0 ∅ 0)
/-- The duties device `c` pays: a signal and a slot to every other device, and its own sends. -/
def payToks (c : Dev nD) : sProp 𝕄 :=
  iprop((bigSep (Finset.univ.erase 0) fun d : Fin 32 => dutyTok EX (barCell (fwd c d)) 0 d)
    ∗ (bigSep (Finset.univ.erase 0) fun d : Fin 32 => dutyTok EX (sendCell c d) 0 0)
    ∗ bigSep (Finset.univ.erase 0) fun d : Fin 32 => dutyTok EX (recvCell (fwd c d) d) 0 0)
/-- The ghost state device `c` starts from. -/
def ghost (K : Dev nD × (Unit ⊕ (Fin 32 ⊕ Fin 32)) → ℕ) (c : Dev nD) : sProp 𝕄 :=
  iprop(records m K ∗ positions c ∗ payToks c)
/-- What device `c` may wait for: 31 signals and 31 slots. -/
def credits (c : Dev nD) : sProp 𝕄 :=
  iprop(cred (tallyAt (barCell c) () 31) ∗ bigSep (Finset.univ.erase 0) fun d : Fin 32 => cred (tallyAt (recvCell c d) () N))
/-- What device `c`'s body starts from, besides its buffers. -/
def start (c : Dev nD) : sProp 𝕄 := iprop((∃ K, ghost m K c) ∗ credits c ∗ levAts lvSet lv)

end Cert.KernelIdealProof

end
-- ==== Proof.Contents.lean ====
/-
# 01_k — `Contents`: what the loads, stores and transfers of one slot read and write

Each lemma is about one slot `d`, whatever `d` is.
-/
module

public import proofs.«01_k».proof.Proof.Sched
public import Idealize.ShloMosaic.Lib.Ring
public import Idealize.ShloMosaic.Lib.Pipeline.Value

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD) (d : Fin 32)

/-- The rows the staging loop copies for offset `d` start at block `c + d`. -/
theorem off1_eq : ∀ (c : Dev nD) (d : Fin 32), k0_off1 c (BitVec.ofNat 32 d.val) = ![128 * (fwd c d).val, 0] := by decide +kernel
/-- The rows of `w` that go with slot `d` start at block `c - d`. -/
theorem off2_eq : ∀ (c : Dev nD) (d : Fin 32), k0_off2 c (BitVec.ofNat 32 d.val) = ![128 * (bwd c d).val, 0] := by decide +kernel

omit [FloatOps F] in
theorem sAcc_set : (sM.access (slotRect d)).set = (slotRect d).set := View.set_slice_whole _ _
omit [FloatOps F] in
theorem gAcc_set : (gM.access (slotRect d)).set = (slotRect d).set := View.set_slice_whole _ _

/-- The entry of a 128 × 128 matrix at a place in a slot. -/
def inSlot (y : S1x128x128.Idx) : S128x128.Idx := fun a => y a.succ

/-- The value stored by the staging loop, entry by entry. -/
theorem pay1_apply (v : Vec F S128x128 .bf16) (y : S1x128x128.Idx) : k0_pay1 v y = v (inSlot y) := by
  unfold k0_pay1
  refine (shapeCast_addUnit_apply ![128, 128] _ _ y).trans ?_
  rw [shapeCast_self]; rfl
/-- The value stored by the device's own copy is the value it loaded. -/
theorem pay36_eq (v : Vec F S1x128x128 .bf16) : k0_pay36 v = v := by
  unfold k0_pay36
  exact shapeCast_shapeCast v _ _

/-- The rows the staging loop reads for offset `d`. -/
abbrev xRect : Rect S4096x128 := Rect.unit (s := S4096x128) (k0_off1 c (BitVec.ofNat 32 d.val)) S128x128.size (k0_off1_inb c d)

/-- An entry of those rows, in the block of `x`. -/
theorem xRect_idx (i : S32x128x128.Idx) (y : S1x128x128.Idx) (hi : slotOf i = d) (h1 : (i 1).val = (y 1).val) (h2 : (i 2).val = (y 2).val) :
    (xRect c d).toLoadRect.idx (inSlot y) = srcIdx c i := by
  refine Shape.idx_ext₂ ?_ ?_
  · show k0_off1 c (BitVec.ofNat 32 d.val) 0 + 1 * (y 1).val = 128 * (fwd c (slotOf i)).val + (i 1).val
    rw [off1_eq, hi, h1, Nat.one_mul]; rfl
  · show k0_off1 c (BitVec.ofNat 32 d.val) 1 + 1 * (y 2).val = (i 2).val
    rw [off1_eq, h2, Nat.one_mul]; exact Nat.zero_add _

omit [FloatOps F] in
theorem xRect_read (X : (cc0_stg0_0 : Ref sig .tc).ty.Contents (Elt F)) (j : S128x128.Idx) :
    xM.view.readAt (Elt F) (xRect c d).toLoadRect X j = X ((xRect c d).toLoadRect.idx j) := rfl

/-- What the staging loop stores in slot `d` is what `staged` holds there. -/
theorem stage_write (f : (cc0_scratch0 : Ref sig .tc).ty.Contents (Elt F)) (i : S32x128x128.Idx) (h : i ∈ (slotRect d).set) :
    (sM.access (slotRect d)).write (Elt F) f (k0_pay1 (xM.view.readAt (Elt F) (xRect c d).toLoadRect (xIn m c))) Finset.univ i = staged m c i := by
  have h' := h
  rw [← sAcc_set] at h'
  obtain ⟨y, -, hy⟩ := Finset.mem_map.mp h'
  have key := View.write_emb_of_mem (Val := Elt F) (v := sM.access (slotRect d)) f
    (k0_pay1 (xM.view.readAt (Elt F) (xRect c d).toLoadRect (xIn m c))) (Finset.mem_univ y)
  rw [hy] at key
  have h1 : (i 1).val = 0 + 1 * (y 1).val := congrArg (fun j : S32x128x128.Idx => (j 1).val) hy.symm
  have h2 : (i 2).val = 0 + 1 * (y 2).val := congrArg (fun j : S32x128x128.Idx => (j 2).val) hy.symm
  rw [Nat.zero_add, Nat.one_mul] at h1 h2
  rw [key, pay1_apply, xRect_read, xRect_idx c d i y ((mem_slot d i).mp h) h1 h2]
  rfl

/-- What a transfer writes in slot `d` of the device `d` after is what `gathered` holds there. -/
theorem send_write (f : (cc0_scratch1 : Ref sig .tc).ty.Contents (Elt F)) (i : S32x128x128.Idx) (h : i ∈ (slotRect d).set) :
    (slotM gM d).view.write (Elt F) f ((slotM sM d).view.read (Elt F) (staged m c)) Finset.univ i = gathered m (fwd c d) i := by
  have h' := h
  rw [← gSlot_set] at h'
  obtain ⟨y, -, rfl⟩ := Finset.mem_map.mp h'
  refine (View.write_emb_of_mem (v := (slotM gM d).view) f _ (Finset.mem_univ y)).trans ?_
  show staged m c ((slotM gM d).view.emb y) = staged m (bwd (fwd c d) (slotOf ((slotM gM d).view.emb y))) ((slotM gM d).view.emb y)
  rw [(mem_slot d _).mp h, show bwd (fwd c d) d = c from add_sub_cancel_right (G := Fin 32) c d]

/-- What the device's own copy stores in slot 0 is what `gathered` holds there. -/
theorem own_write (f : (cc0_scratch1 : Ref sig .tc).ty.Contents (Elt F)) (i : S32x128x128.Idx) (h : i ∈ (slotRect 0).set) :
    (gM.access (slotRect 0)).write (Elt F) f (k0_pay36 (sM.view.readAt (Elt F) (slotRect 0).toLoadRect (staged m c))) Finset.univ i = gathered m c i := by
  have h' := h
  rw [← gAcc_set] at h'
  obtain ⟨y, -, hy⟩ := Finset.mem_map.mp h'
  rw [pay36_eq]
  have key := View.write_emb_of_mem (Val := Elt F) (v := gM.access (slotRect 0)) f (sM.view.readAt (Elt F) (slotRect 0).toLoadRect (staged m c)) (Finset.mem_univ y)
  rw [hy] at key
  refine key.trans ?_
  have e : gathered m c i = staged m c i := by
    show staged m (bwd c (slotOf i)) i = _
    rw [(mem_slot 0 i).mp h, show bwd c 0 = c from sub_zero (G := Fin 32) c]
  exact (congrArg (staged m c) hy).trans e.symm

omit [FloatOps F] in
/-- The whole staging scratch is its slots. -/
theorem scratch0_slots (f : (cc0_scratch0 : Ref sig .tc).ty.Contents (Elt F)) :
    ((((c : Thread nD τ).loc cc0_scratch0) ↦{fullShare} f : sProp 𝕄)) = bigSep Finset.univ fun d => sPts c d f := by
  unfold sPts
  exact Ring.pointsTo_blocks (ℓ := (c : Thread nD τ).loc cc0_scratch0) (fun d : Fin 32 => (slotRect d).set) (fun d d' h => slot_disjoint d d' h)
    (Finset.eq_univ_iff_forall.mpr fun i => Finset.mem_biUnion.mpr ⟨slotOf i, Finset.mem_univ _, (mem_slot _ i).mpr rfl⟩) f
omit [FloatOps F] in
/-- The whole receiving scratch is its slots. -/
theorem scratch1_slots (f : (cc0_scratch1 : Ref sig .tc).ty.Contents (Elt F)) :
    ((((c : Thread nD τ).loc cc0_scratch1) ↦{fullShare} f : sProp 𝕄)) = bigSep Finset.univ fun d => gPts c d f := by
  unfold gPts
  exact Ring.pointsTo_blocks (ℓ := (c : Thread nD τ).loc cc0_scratch1) (fun d : Fin 32 => (slotRect d).set) (fun d d' h => slot_disjoint d d' h)
    (Finset.eq_univ_iff_forall.mpr fun i => Finset.mem_biUnion.mpr ⟨slotOf i, Finset.mem_univ _, (mem_slot _ i).mpr rfl⟩) f

/-! ## The output buffer, loaded and stored whole -/

/-- The whole output block as a rectangle. -/
abbrev oRect : Rect S128x2048 := Rect.unit (s := S128x2048) ![0, 0] S128x2048.size inb_S128x2048_S128x2048_0_0

theorem zero_off : (![0, 0] : Fin 2 → Nat) = fun _ => 0 := funext fun a => by fin_cases a <;> rfl
omit [FloatOps F] in
theorem out_read (f : (cc0_stg2_0 : Ref sig .tc).ty.Contents (Elt F)) : oM.view.readAt (Elt F) oRect.toLoadRect f = f :=
  Memref.readAt_unit_zero (Elt F) cc0_stg2_0 zero_off _ f
omit [FloatOps F] in
theorem out_write (f w : (cc0_stg2_0 : Ref sig .tc).ty.Contents (Elt F)) : (oM.access oRect).write (Elt F) f w Finset.univ = w :=
  Memref.write_access_unit_zero_univ (Elt F) cc0_stg2_0 zero_off _ f w

end Cert.KernelIdealProof

end
-- ==== Proof.Steps.lean ====
/-
# 01_k — `Steps`: one step of each loop, and the rule that runs a loop

`runs_each` runs a loop from a proof of one step: a state that each step changes, and per element what the step takes
and gives. The other theorems are the steps of the kernel's five loops, for an arbitrary offset `d`, and the device's own
block.
-/
module

public import proofs.«01_k».proof.Proof.Contents

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` safely, and `Q` holds afterwards. -/
abbrev Runs {α : Type} (c : Dev nD) (p : KProg F α) (Q : α → sProp 𝕄) : sProp 𝕄 :=
  wp frame (wpE (defs₀ (F := F)) 𝒱₀ (c : Thread nD τ) none) Set.univ p Q

/-- A loop, from its step: `R l` is the state with the elements of `l` to go, `Φ a` what the step for `a` takes, `Ψ a` what
    it gives. -/
theorem runs_each {c : Dev nD} {f : Fin 32 → KProg F PUnit} {k : KProg F PUnit} {Q : PUnit → sProp 𝕄}
    (R : List (Fin 32) → sProp 𝕄) (Φ Ψ : Fin 32 → sProp 𝕄) (l : List (Fin 32)) (hl : l.Nodup)
    (step : ∀ a ∈ l, ∀ l', iprop(R (a :: l') ∗ Φ a) ⊢ Runs c (f a) fun _ => iprop(R l' ∗ Ψ a)) :
    iprop(R l ∗ bigSep l.toFinset Φ ∗ ((R [] ∗ bigSep l.toFinset Ψ) -∗ Runs c k Q)) ⊢ Runs c (each f k l) Q := by
  induction l with
  | nil =>
    show iprop(R [] ∗ bigSep ∅ Φ ∗ ((R [] ∗ bigSep ∅ Ψ) -∗ Runs c k Q)) ⊢ Runs c k Q
    rw [bigSep_empty, bigSep_empty]
    iintro ⟨HR, -, Hk⟩
    iapply Hk
    isplitl [HR]; · iexact HR
    iempintro
  | cons a l ih =>
    have hn : a ∉ l.toFinset := fun h => (List.nodup_cons.mp hl).1 (List.mem_toFinset.mp h)
    show _ ⊢ Runs c (f a >>= fun _ => each f k l) Q
    unfold Runs
    have e (X : Fin 32 → sProp 𝕄) : bigSep (insert a l.toFinset) X = iprop(X a ∗ bigSep l.toFinset X) := bigSep_insert hn
    rw [wp_bind, List.toFinset_cons, e, e]
    have s1 := step a List.mem_cons_self l
    have s2 := ih (List.nodup_cons.mp hl).2 fun b hb => step b (List.mem_cons_of_mem _ hb)
    iintro ⟨HR, ⟨Ha, Hl⟩, Hk⟩
    iapply (wp_wand_r _ _ _ (Q := fun _ => iprop(R l ∗ Ψ a)))
    isplitl [HR Ha]
    · iapply s1
      isplitl [HR] <;> iassumption
    · iintro %u ⟨HR, Ha⟩
      iapply s2
      isplitl [HR]; · iexact HR
      isplitl [Hl]; · iexact Hl
      iintro ⟨HR, Hl⟩
      iapply Hk
      isplitl [HR]; · iexact HR
      isplitl [Ha] <;> iassumption

variable (m : (ℓ : Loc nD τ sig) → Buf (Elt F) ℓ) (K : Dev nD × (Unit ⊕ (Fin 32 ⊕ Fin 32)) → ℕ) (c : Dev nD) (d : Fin 32)

/-- The staged block of `x`. -/
def xPts : sProp 𝕄 := ((c : Thread nD τ).loc cc0_stg0_0) ↦{fullShare} xIn m c
/-- The staged copy of `w`. -/
def wPts : sProp 𝕄 := ((c : Thread nD τ).loc cc0_stg1_0) ↦{fullShare} wIn m c
/-- The output block, holding `o`. -/
def oPts (o : (cc0_stg2_0 : Ref sig .tc).ty.Contents (Elt F)) : sProp 𝕄 := ((c : Thread nD τ).loc cc0_stg2_0) ↦{fullShare} o
/-- What device `c` owes, whatever it has waited for. -/
def owing (O : CellTallies nD τ sig Unit) : sProp 𝕄 := iprop(∃ W, owes (c : Thread nD τ) O W)

/-! ## The five steps -/

/-- The staging loop's step fills slot `d`. -/
theorem runs_stage (f : (cc0_scratch0 : Ref sig .tc).ty.Contents (Elt F)) :
    iprop(xPts m c ∗ sPts c d f) ⊢ Runs c (stageStep xM sM (Memref.isWhole_whole _) c d) fun _ => iprop(xPts m c ∗ sPts c d (staged m c)) := by
  unfold stageStep Runs xPts sPts
  simp only [Prog.lift, Prog.bind_op, Prog.bind_ret, Prog.pure_eq_ret]
  iintro ⟨Hx, Hs⟩
  iapply (wp_load 𝒱₀ (c : Thread nD τ) none Set.univ (m := xM) (Finset.subset_univ _)) $$ Hx; iintro Hx
  iapply (wp_load 𝒱₀ (c : Thread nD τ) none Set.univ (m := sM) (S := (slotRect d).set) (Finset.map_refl.le)) $$ Hs; iintro Hs
  iapply (wp_store 𝒱₀ (c : Thread nD τ) none Set.univ (m := sM) (r := slotRect d) (Mk := Finset.univ) (S := (slotRect d).set) (sAcc_set d).le) $$ Hs; iintro Hs
  rw [wp_ret]; imodintro
  isplitl [Hx]; · iexact Hx
  ihave Hs := (Entails.of_eq (pointsTo_congr (ℓ := (c : Thread nD τ).loc cc0_scratch0) fun i hi => stage_write m c d f i hi)) $$ Hs
  iexact Hs

/-- The signalling loop's step pays the barrier of the device `d` after, with slot `-d` of the receiving scratch. -/
theorem runs_signal (hd : d ≠ 0) (O : CellTallies nD τ sig Unit) (f : (cc0_scratch1 : Ref sig .tc).ty.Contents (Elt F)) :
    iprop(records m K ∗ owing c (O + tallyAt (barCell (fwd c d)) () 1) ∗ dutyTok EX (barCell (fwd c d)) 0 d ∗ gPts c (-d) f)
      ⊢ Runs c (signalStep c d) fun _ => owing c O := by
  unfold signalStep Runs semSignalWord owing
  rw [tgt_eq]
  iintro ⟨#HR, ⟨%W, HO⟩, Ht, Hg⟩
  iapply (Rounds.wp_signal 𝒱₀ EX (sched m) (c : Thread nD τ) none (dst := (fwd c d : Thread nD τ)) (κ := K (fwd c d, .inl ()))
      (r := 0) (d := d) (by rw [duties_bar]; exact Finset.mem_erase.mpr ⟨hd, Finset.mem_univ _⟩)
      (show (sched (F := F) m).amount (barCell (fwd c d)) 0 d = 1 from rfl) () O rfl) $$ [HO Ht Hg]
  · isplitr; · iapply (records_inv m K (fwd c d, .inl ())); iexact HR
    isplitl [HO]; · iexact HO
    isplitl [Ht]; · iexact Ht
    isplitl [Hg]
    · rw [show (sched (F := F) m).payload (barCell (fwd c d)) 0 d = barPay (fwd c d) d from rfl]
      unfold barPay
      rw [show bwd (fwd c d) d = c from add_sub_cancel_right (G := Fin 32) c d]
      isplitl [Hg]; · iexists f; iexact Hg
      iapply (records_reached m K (c, .inr (.inr (-d)))); iexact HR
    iapply (records_reached m K (fwd c d, .inl ())); iexact HR
  iintro HO
  rw [wp_ret]; imodintro
  iexists W; iexact HO

/-- A transfer of slot `d` to the device `n`, when `n` is the device `d` after. -/
theorem runs_transfer (hd : d ≠ 0) (n : Dev nD) (hn : n = fwd c d) {hsc : (slotM gM d : Memref sig (Dev.tc n : Thread nD τ).2.kind .vmem S128x128 .bf16).view.ref.isScScratch = false}
    {hsrc : (slotM sM d).view.WordExact} {hdst : (slotM gM d).view.WordExact}
    {hsem : DmaTarget.Typed .vmem (.dma (recvS d)) (.remote (Dev.tc n : Thread nD τ) (slotM gM d) (.dma (sendS d)) hsc)}
    (O : CellTallies nD τ sig Unit) (W : Waits sig Unit) (f : (cc0_scratch1 : Ref sig .tc).ty.Contents (Elt F)) :
    iprop(records m K ∗ owes (c : Thread nD τ) (O + tallyAt (recvCell (fwd c d) d) () N) W
        ∗ dutyTok EX (sendCell c d) 0 0 ∗ dutyTok EX (recvCell (fwd c d) d) 0 0 ∗ sPts c d (staged m c) ∗ gPts (fwd c d) d f)
      ⊢ Runs c (Prog.lift (.enqueueDma (slotM sM d) (.remote (Dev.tc n : Thread nD τ) (slotM gM d) (.dma (sendS d)) hsc) (.dma (recvS d)) hsrc hdst hsem))
          fun _ => iprop(owes (c : Thread nD τ) O W ∗ cred (tallyAt (sendCell c d) () N)) := by
  subst hn
  unfold Runs Prog.lift
  iintro ⟨#HR, HO, Hts, Htr, Hs, Hg⟩
  iapply (Rounds.wp_send_pointsTo 𝒱₀ EX (sched m) (c : Thread nD τ) none (κ₁ := K (c, .inr (.inl d))) (κ₂ := K (fwd c d, .inr (.inr d)))
    (r₁ := 0) (r₂ := 0) (d₁ := 0) (d₂ := 0) (fs := staged m c) (fd := f)
    (by rw [duties_send m c d hd]; exact Finset.mem_singleton_self _) (by rw [duties_recv m (fwd c d) d hd]; exact Finset.mem_singleton_self _)
    () () N rfl rfl rfl O rfl (W := W)
    (by rw [payload_send]; unfold sendPay sPts; rw [sSlot_set])
    (by
      rw [payload_recv]; unfold recvPay gPts; rw [gSlot_set]
      exact Entails.of_eq (pointsTo_congr fun i hi => send_write m c d f i hi))) $$ [HO Hts Htr Hs Hg]
  · isplitr; · iapply (records_inv m K (c, .inr (.inl d))); iexact HR
    isplitr; · iapply (records_inv m K (fwd c d, .inr (.inr d))); iexact HR
    isplitl [Hs]; · rw [sSlot_set]; unfold sPts; iexact Hs
    isplitl [Hg]; · rw [gSlot_set]; unfold gPts; iexact Hg
    isplitl [HO]; · iexact HO
    isplitl [Hts]; · iexact Hts
    isplitr; · iapply (records_reached m K (c, .inr (.inl d))); iexact HR
    isplitl [Htr]; · iexact Htr
    iapply (records_reached m K (fwd c d, .inr (.inr d))); iexact HR
  iintro ⟨Hc, HO⟩
  rw [wp_ret]; imodintro
  isplitl [HO] <;> iassumption

/-- The sending loop's step pays slot `d` to the device `d` after. -/
theorem runs_send (hd : d ≠ 0) (O : CellTallies nD τ sig Unit) (f : (cc0_scratch1 : Ref sig .tc).ty.Contents (Elt F)) :
    iprop(records m K ∗ owing c (O + tallyAt (recvCell (fwd c d) d) () N)
        ∗ dutyTok EX (sendCell c d) 0 0 ∗ dutyTok EX (recvCell (fwd c d) d) 0 0 ∗ sPts c d (staged m c) ∗ gPts (fwd c d) d f)
      ⊢ Runs c (sendStep sM (Memref.isWhole_whole _) gM (Memref.isWhole_whole _) cc0_scratch2 cc0_scratch3 c d)
          fun _ => iprop(owing c O ∗ cred (tallyAt (sendCell c d) () N)) := by
  unfold sendStep owing
  iintro ⟨HR, ⟨%W, HO⟩, H⟩
  iapply (wp_wand_r _ _ _ (Q := fun _ => iprop(owes (c : Thread nD τ) O W ∗ cred (tallyAt (sendCell c d) () N))))
  isplitl
  · iapply (runs_transfer m K c d hd _ (tgt_eq c d) O W f)
    isplitl [HR]; · iexact HR
    isplitl [HO]; · iexact HO
    iexact H
  · iintro %u ⟨HO, Hc⟩
    isplitl [HO]; · iexists W; iexact HO
    iexact Hc

/-- The receiving loop's step waits for slot `d` and adds its product to the output. -/
theorem runs_recv (hd : d ≠ 0) (o : (cc0_stg2_0 : Ref sig .tc).ty.Contents (Elt F)) :
    iprop(records m K ∗ owing c 0 ∗ cred (tallyAt (recvCell c d) () N) ∗ atPos EX (recvCell c d) 0 ∅ 0 ∗ wPts m c ∗ oPts c o)
      ⊢ Runs c (recvStep wM oM sM (Memref.isWhole_whole _) gM (Memref.isWhole_whole _) cc0_scratch3 c d)
          fun _ => iprop(owing c 0 ∗ atPos EX (recvCell c d) 1 ∅ 0 ∗ gPts c d (gathered m c) ∗ wPts m c ∗ oPts c (addSlot m c o d)) := by
  unfold recvStep Runs owing wPts oPts
  simp only [Prog.lift, Prog.bind_op, Prog.bind_ret, Prog.pure_eq_ret]
  iintro ⟨#HR, ⟨%W, HO⟩, Hc, Hat, Hw, Ho⟩
  iapply (Rounds.wp_wait_rest_token 𝒱₀ EX (sched m) (c : Thread nD τ) none (κ := K (c, .inr (.inr d)))
      (wpE_waitDma2_eq 𝒱₀ (c : Thread nD τ) none Set.univ) (Set.mem_univ _) () (O := 0) (W := W) (R := 0) (m := 0) (T := ∅)
      (by rw [Nat.zero_add, expect_recv m c d hd])) $$ [Hc HO Hat]
  · isplitr; · iapply (records_inv m K (c, .inr (.inr d))); iexact HR
    isplitl [Hc]; · iexact Hc
    isplitl [HO]; · iexact HO
    isplitr; · rw [MayWait_zero]; iempintro
    iexact Hat
  iintro ⟨HO, Hat, -, Hpay⟩
  ihave Hg := (Entails.of_eq (rest_recv m c d hd)) $$ Hpay
  unfold recvPay gPts
  iapply (wp_load 𝒱₀ (c : Thread nD τ) none Set.univ (m := gM) (S := (slotRect d).set) (Finset.map_refl.le)) $$ Hg; iintro Hg
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := oRect) (Mk := Finset.univ) (Finset.subset_univ _)) $$ Ho; iintro Ho
  rw [out_write, out_read, wp_ret]; imodintro
  isplitl [HO]; · iexists _; iexact HO
  isplitl [Hat]; · iexact Hat
  isplitl [Hg]; · iexact Hg
  isplitl [Hw]; · iexact Hw
  unfold addSlot gSlot wRows
  iexact Ho

/-- The last loop's step waits until slot `d` has left. -/
theorem runs_sent (hd : d ≠ 0) :
    iprop(records m K ∗ owing c 0 ∗ cred (tallyAt (sendCell c d) () N) ∗ atPos EX (sendCell c d) 0 ∅ 0)
      ⊢ Runs c (sentStep sM (Memref.isWhole_whole _) gM (Memref.isWhole_whole _) cc0_scratch2 d)
          fun _ => iprop(owing c 0 ∗ atPos EX (sendCell c d) 1 ∅ 0 ∗ sPts c d (staged m c)) := by
  unfold sentStep Runs owing
  simp only [Prog.lift]
  iintro ⟨#HR, ⟨%W, HO⟩, Hc, Hat⟩
  iapply (Rounds.wp_wait_rest_token 𝒱₀ EX (sched m) (c : Thread nD τ) none (κ := K (c, .inr (.inl d)))
      (wpE_waitDma2_eq 𝒱₀ (c : Thread nD τ) none Set.univ) (Set.mem_univ _) () (O := 0) (W := W) (R := 0) (m := 0) (T := ∅)
      (by rw [Nat.zero_add, expect_send m c d hd])) $$ [Hc HO Hat]
  · isplitr; · iapply (records_inv m K (c, .inr (.inl d))); iexact HR
    isplitl [Hc]; · iexact Hc
    isplitl [HO]; · iexact HO
    isplitr; · rw [MayWait_zero]; iempintro
    iexact Hat
  iintro ⟨HO, Hat, -, Hpay⟩
  ihave Hs := (Entails.of_eq (rest_send m c d hd)) $$ Hpay
  unfold sendPay
  rw [wp_ret]; imodintro
  isplitl [HO]; · iexists _; iexact HO
  isplitl [Hat]; · iexact Hat
  iexact Hs

/-- The wait for every other device's signal: slot `d` of the device `d` after, for every offset `d`. -/
theorem runs_barrier :
    iprop(records m K ∗ levAts lvSet lv ∗ owing c (owedSlots c offs) ∗ cred (tallyAt (barCell c) () 31) ∗ atPos EX (barCell c) 0 ∅ 0)
      ⊢ Runs c (semWaitWord barS 31#32)
          fun _ => iprop(owing c (owedSlots c offs) ∗ atPos EX (barCell c) 1 ∅ 0
            ∗ bigSep (Finset.univ.erase 0) fun d : Fin 32 => iprop((∃ f, gPts (F := F) (fwd c d) d f) ∗ reached EX (recvCell (fwd c d) d) 0)) := by
  unfold Runs semWaitWord owing
  iintro ⟨#HR, #Hlev, ⟨%W, HO⟩, Hc, Hat⟩
  iapply (Rounds.wp_wait_rest_token 𝒱₀ EX (sched m) (c : Thread nD τ) none (κ := K (c, .inl ()))
      (wpE_semWait_eq 𝒱₀ (c : Thread nD τ) none Set.univ) (Set.mem_univ _) () (O := owedSlots c offs) (W := W) (R := 0) (m := 0) (T := ∅)
      (by rw [expect_bar]; decide)) $$ [Hc HO Hat]
  · isplitr; · iapply (records_inv m K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  rw [wp_ret]; imodintro
  isplitl [HO]; · iexists _; iexact HO
  isplitl [Hat]; · iexact Hat
  iexact Hp

/-- The device's own block: slot 0 copied over, and the first product in the output. -/
theorem runs_own (f : (cc0_scratch1 : Ref sig .tc).ty.Contents (Elt F)) (o : (cc0_stg2_0 : Ref sig .tc).ty.Contents (Elt F)) :
    iprop(sPts c 0 (staged m c) ∗ gPts c 0 f ∗ wPts m c ∗ oPts c o)
      ⊢ Runs c (ownStep wM oM sM gM (Memref.isWhole_whole _) c)
          fun _ => iprop(sPts c 0 (staged m c) ∗ gPts c 0 (gathered m c) ∗ wPts m c ∗ oPts c (ownOut m c)) := by
  unfold ownStep Runs sPts gPts wPts oPts
  simp only [Prog.lift, Prog.bind_op, Prog.bind_ret, Prog.pure_eq_ret]
  iintro ⟨Hs, Hg, Hw, Ho⟩
  iapply (wp_load 𝒱₀ (c : Thread nD τ) none Set.univ (m := sM) (S := (slotRect 0).set) (Finset.map_refl.le)) $$ Hs; iintro Hs
  iapply (wp_load 𝒱₀ (c : Thread nD τ) none Set.univ (m := gM) (S := (slotRect 0).set) (Finset.map_refl.le)) $$ Hg; iintro Hg
  iapply (wp_store 𝒱₀ (c : Thread nD τ) none Set.univ (m := gM) (r := slotRect 0) (Mk := Finset.univ) (S := (slotRect 0).set) (gAcc_set 0).le) $$ Hg; iintro Hg
  ihave Hg := (Entails.of_eq (pointsTo_congr (ℓ := (c : Thread nD τ).loc cc0_scratch1) fun i hi => own_write m c f i hi)) $$ Hg
  iapply (wp_load 𝒱₀ (c : Thread nD τ) none Set.univ (m := gM) (S := (slotRect 0).set) (Finset.map_refl.le)) $$ Hg; iintro Hg
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := oRect) (Mk := Finset.univ) (Finset.subset_univ _)) $$ Ho; iintro Ho
  rw [out_write, wp_ret]; imodintro
  isplitl [Hs]; · iexact Hs
  isplitl [Hg]; · iexact Hg
  isplitl [Hw]; · iexact Hw
  unfold ownOut gSlot wRows
  iexact Ho

end Cert.KernelIdealProof

end
-- ==== Proof.Body.lean ====
/-
# 01_k — `Body`: the whole body on one device

The loops in order, from what the launch gives a device to what it takes back: the staging loop fills the scratch, the
signals hand the receiving slots out, the barrier brings in the other devices' slots, the sends use them, the device's own
block starts the output, the arrivals complete it, and the finished sends give the staging scratch back.
-/
module

public import proofs.«01_k».proof.Proof.Steps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (K : Dev nD × (Unit ⊕ (Fin 32 ⊕ Fin 32)) → ℕ) (c : Dev nD)

/-! ## Loops over the offsets -/

omit [FloatOps F] in
/-- Two families over the offsets to other devices, taken together. -/
theorem sep_join (A B : Fin 32 → sProp 𝕄) :
    iprop(bigSep (Finset.univ.erase 0) A ∗ bigSep (Finset.univ.erase 0) B) ⊢ bigSep (Finset.univ.erase 0) fun d => iprop(A d ∗ B d) :=
  Entails.of_eq (bigSep_sep' _ A B).symm
omit [FloatOps F] in
/-- Two families over the offsets to other devices, taken apart. -/
theorem sep_split (A B : Fin 32 → sProp 𝕄) :
    (bigSep (Finset.univ.erase 0) fun d => iprop(A d ∗ B d)) ⊢ iprop(bigSep (Finset.univ.erase 0) A ∗ bigSep (Finset.univ.erase 0) B) :=
  Entails.of_eq (bigSep_sep' _ A B)

theorem offs_nodup : (0 :: offs).Nodup := by decide
theorem offs_set : offs.toFinset = Finset.univ.erase (0 : Fin 32) := by decide
theorem all_set : (0 :: offs).toFinset = (Finset.univ : Finset (Fin 32)) := by decide

/-- A loop over all offsets. -/
theorem runs_all {f : Fin 32 → KProg F PUnit} {k : KProg F PUnit} {Q : PUnit → sProp 𝕄} (R : List (Fin 32) → sProp 𝕄) (Φ Ψ : Fin 32 → sProp 𝕄)
    (step : ∀ d l, iprop(R (d :: l) ∗ Φ d) ⊢ Runs c (f d) fun _ => iprop(R l ∗ Ψ d)) :
    iprop(R (0 :: offs) ∗ bigSep Finset.univ Φ ∗ ((R [] ∗ bigSep Finset.univ Ψ) -∗ Runs c k Q)) ⊢ Runs c (each f k (0 :: offs)) Q := by
  have h := runs_each (c := c) (f := f) (k := k) (Q := Q) R Φ Ψ (0 :: offs) offs_nodup fun d _ l => step d l
  rwa [all_set] at h

/-- A loop over the offsets to other devices. -/
theorem runs_offs {f : Fin 32 → KProg F PUnit} {k : KProg F PUnit} {Q : PUnit → sProp 𝕄} (R : List (Fin 32) → sProp 𝕄) (Φ Ψ : Fin 32 → sProp 𝕄)
    (step : ∀ d, d ≠ 0 → ∀ l, iprop(R (d :: l) ∗ Φ d) ⊢ Runs c (f d) fun _ => iprop(R l ∗ Ψ d)) :
    iprop(R offs ∗ bigSep (Finset.univ.erase 0) Φ ∗ ((R [] ∗ bigSep (Finset.univ.erase 0) Ψ) -∗ Runs c k Q)) ⊢ Runs c (each f k offs) Q := by
  have h := runs_each (c := c) (f := f) (k := k) (Q := Q) R Φ Ψ offs (List.nodup_cons.mp offs_nodup).2
    fun d hd l => step d (fun h0 => (List.nodup_cons.mp offs_nodup).1 (h0 ▸ hd)) l
  rwa [offs_set] at h

/-! ## Closing the cells -/

/-- A device's 32 cells of one kind close: the one of offset 0 was never used, the others have had their round. -/
theorem close_cells (k : Fin 32 → Fin 32 ⊕ Fin 32) (hz : ∀ r, 0 ≤ r → (sched (F := F) m).duties (cellAt (c, .inr (k 0))) r = ∅) :
    iprop(records m K ∗ atPos EX (cellAt (c, .inr (k 0))) 0 ∅ 0 ∗ bigSep (Finset.univ.erase 0) fun d => atPos EX (cellAt (c, .inr (k d))) 1 ∅ 0)
      ⊢ |={Set.univ}=> (bigSep Finset.univ fun d => semVal (cellAt (c, .inr (k d))) 0 : sProp 𝕄) := by
  have h1 : iprop(records m K ∗ bigSep (Finset.univ.erase 0) fun d => atPos EX (cellAt (c, .inr (k d))) 1 ∅ 0)
      ⊢ |={Set.univ}=> (bigSep (Finset.univ.erase 0) fun d => semVal (cellAt (c, .inr (k d))) 0 : sProp 𝕄) := by
    refine (bigSep_with_persistent (Ψ := fun d => iprop(|={Set.univ}=> semVal (cellAt (c, .inr (k d))) 0)) fun d _ => ?_).trans (bigSep_fupd _ _)
    iintro ⟨HR, Hat⟩
    iapply (Rounds.cell_close EX (sched m) (Set.mem_univ (K (c, .inr (k d)))) (fun h => h) (R := 1) (duties_later m _))
    isplitl [HR]; · iapply (records_inv m K (c, .inr (k d))); iexact HR
    iexact Hat
  rw [bigSep_univ_at (fun d => (semVal (cellAt (c, .inr (k d))) 0 : sProp 𝕄)) 0]
  iintro ⟨#HR, H0, H⟩
  imod (Rounds.cell_close EX (sched m) (Set.mem_univ (K (c, .inr (k 0)))) (fun h => h) (R := 0) hz) $$ [H0] with Hz
  · isplitr; · iapply (records_inv m K (c, .inr (k 0))); iexact HR
    iexact H0
  imod h1 $$ [H] with H
  · isplitr; · iexact HR
    iexact H
  imodintro
  isplitl [Hz] <;> iassumption

/-! ## The body -/

/-- What device `c` keeps after the kernel: both scratch buffers and every semaphore, at zero. -/
def kept : sProp 𝕄 :=
  iprop((((c : Thread nD τ).loc cc0_scratch0) ↦{fullShare} staged m c) ∗ (((c : Thread nD τ).loc cc0_scratch1) ↦{fullShare} gathered m c)
    ∗ (bigSep Finset.univ fun d => semVal (sendCell c d) 0) ∗ (bigSep Finset.univ fun d => semVal (recvCell c d) 0) ∗ semVal (barCell c) 0)

/-- The state of the receiving loop: the products of the offsets in `l` are still to be added. -/
def summing (l : List (Fin 32)) : sProp 𝕄 :=
  iprop(records m K ∗ owing c 0 ∗ wPts m c ∗ ∃ o, ⌜l.foldl (addSlot m c) o = outOf m c⌝ ∗ oPts c o)

set_option maxHeartbeats 1000000 in
/-- The body of device `c`: from its blocks, its scratch and its part of the exchange, to the output. -/
theorem runs_body (f0 : (cc0_scratch0 : Ref sig .tc).ty.Contents (Elt F)) (f1 : (cc0_scratch1 : Ref sig .tc).ty.Contents (Elt F))
    (o : (cc0_stg2_0 : Ref sig .tc).ty.Contents (Elt F)) :
    iprop(ghost m K c ∗ credits c ∗ levAts lvSet lv ∗ owing c (owed₀ c) ∗ xPts m c ∗ wPts m c ∗ oPts c o
        ∗ (((c : Thread nD τ).loc cc0_scratch0) ↦{fullShare} f0) ∗ (((c : Thread nD τ).loc cc0_scratch1) ↦{fullShare} f1))
      ⊢ Runs c (body xM (Memref.isWhole_whole _) wM (Memref.isWhole_whole _) oM (Memref.isWhole_whole _) sM (Memref.isWhole_whole _)
          gM (Memref.isWhole_whole _) cc0_scratch2 cc0_scratch3)
          fun _ => iprop(kept m c ∗ owing c 0 ∗ xPts m c ∗ wPts m c ∗ oPts c (outOf m c)) := by
  unfold body ghost positions payToks credits Runs
  rw [wp_bind, Prog.lift, wp_deviceId, wp_ret, scratch0_slots, scratch1_slots, bigSep_univ_at (fun d => gPts (F := F) c d f1) 0,
    bigSep_neg (fun d => gPts (F := F) c d f1), bigSep_univ_at (fun d => (atPos EX (sendCell c d) 0 ∅ 0 : sProp 𝕄)) 0,
    bigSep_univ_at (fun d => (atPos EX (recvCell c d) 0 ∅ 0 : sProp 𝕄)) 0]
  iintro ⟨⟨#HR, ⟨HaB, ⟨HaS0, HaS⟩, HaV0, HaV⟩, HtB, HtS, HtV⟩, ⟨HcB, HcV⟩, #Hlev, HO, Hx, Hw, Ho, Hs, Hg0, Hg⟩
  imodintro
  -- the staging loop
  iapply (runs_all c (fun _ => xPts m c) (fun d => sPts c d f0) (fun d => sPts c d (staged m c)) fun d l => runs_stage m c d f0)
  isplitl [Hx]; · iexact Hx
  isplitl [Hs]; · iexact Hs
  iintro ⟨Hx, Hs⟩
  -- the signals
  iapply (runs_offs c (fun l => iprop(records m K ∗ owing c (owedSlots c offs + owedSignals c l)))
    (fun d => iprop(dutyTok EX (barCell (fwd c d)) 0 d ∗ gPts c (-d) f1)) (fun _ => iprop(emp)) fun d hd l => by
      rw [owedSignals_cons, ← add_assoc]
      iintro ⟨⟨#HR, HO⟩, Ht, Hg⟩
      iapply (wp_wand_r _ _ _ (Q := fun _ => owing c (owedSlots c offs + owedSignals c l)))
      isplitl
      · iapply (runs_signal m K c d hd (owedSlots c offs + owedSignals c l) f1)
        isplitr; · iexact HR
        isplitl [HO]; · iexact HO
        isplitl [Ht] <;> iassumption
      · iintro %u HO
        isplitl
        · isplitr; · iexact HR
          iexact HO
        iempintro)
  isplitl [HO]
  · isplitr; · iexact HR
    iexact HO
  isplitl [HtB Hg]
  · iapply sep_join
    isplitl [HtB] <;> iassumption
  iintro ⟨⟨-, HO⟩, -⟩
  rw [show owedSlots c offs + owedSignals c [] = owedSlots c offs from add_zero _]
  -- the barrier
  unfold Runs
  rw [wp_bind]
  iapply (wp_wand_r _ _ _ (Q := fun _ => iprop(owing c (owedSlots c offs) ∗ atPos EX (barCell c) 1 ∅ 0
            ∗ bigSep (Finset.univ.erase 0) fun d : Fin 32 => iprop((∃ f, gPts (F := F) (fwd c d) d f) ∗ reached EX (recvCell (fwd c d) d) 0))))
  isplitl [HO HcB HaB]
  · iapply (runs_barrier m K c)
    isplitr; · iexact HR
    isplitr; · iexact Hlev
    isplitl [HO]; · iexact HO
    isplitl [HcB] <;> iassumption
  iintro %u ⟨HO, HaB, Hg⟩
  -- the sends
  ihave Hs := (Entails.of_eq (bigSep_univ_at (fun d => sPts c d (staged m c)) 0)) $$ Hs
  icases Hs with ⟨Hs0, Hs⟩
  iapply (runs_offs c (fun l => iprop(records m K ∗ owing c (owedSlots c l)))
    (fun d => iprop((dutyTok EX (sendCell c d) 0 0 ∗ dutyTok EX (recvCell (fwd c d) d) 0 0) ∗ sPts c d (staged m c)
      ∗ (∃ f, gPts (F := F) (fwd c d) d f) ∗ reached EX (recvCell (fwd c d) d) 0))
    (fun d => cred (tallyAt (sendCell c d) () N)) fun d hd l => by
      rw [owedSlots_cons]
      iintro ⟨⟨#HR, HO⟩, ⟨Hts, Htr⟩, Hs, ⟨%f, Hg⟩, -⟩
      iapply (wp_wand_r _ _ _ (Q := fun _ => iprop(owing c (owedSlots c l) ∗ cred (tallyAt (sendCell c d) () N))))
      isplitl
      · iapply (runs_send m K c d hd (owedSlots c l) f)
        isplitr; · iexact HR
        isplitl [HO]; · iexact HO
        isplitl [Hts]; · iexact Hts
        isplitl [Htr]; · iexact Htr
        isplitl [Hs] <;> iassumption
      · iintro %u ⟨HO, Hc⟩
        isplitl [HO]
        · isplitr; · iexact HR
          iexact HO
        iexact Hc)
  isplitl [HO]
  · isplitr; · iexact HR
    iexact HO
  isplitl [HtS HtV Hs Hg]
  · iapply sep_join
    isplitl [HtS HtV]
    · iapply sep_join
      isplitl [HtS] <;> iassumption
    iapply sep_join
    isplitl [Hs] <;> iassumption
  iintro ⟨⟨-, HO⟩, HcS⟩
  rw [show owedSlots c [] = 0 from rfl]
  -- the device's own block
  unfold Runs
  rw [wp_bind]
  iapply (wp_wand_r _ _ _ (Q := fun _ => iprop(sPts c 0 (staged m c) ∗ gPts c 0 (gathered m c) ∗ wPts m c ∗ oPts c (ownOut m c))))
  isplitl [Hs0 Hg0 Hw Ho]
  · iapply (runs_own m c f1 o)
    isplitl [Hs0]; · iexact Hs0
    isplitl [Hg0]; · iexact Hg0
    isplitl [Hw] <;> iassumption
  iintro %u' ⟨Hs0, Hg0, Hw, Ho⟩
  -- the arrivals
  iapply (runs_offs c (summing m K c) (fun d => iprop(cred (tallyAt (recvCell c d) () N) ∗ atPos EX (recvCell c d) 0 ∅ 0))
    (fun d => iprop(atPos EX (recvCell c d) 1 ∅ 0 ∗ gPts c d (gathered m c))) fun d hd l => by
      unfold summing
      iintro ⟨⟨#HR, HO, Hw, %o, %ho, Ho⟩, Hc, Hat⟩
      iapply (wp_wand_r _ _ _ (Q := fun _ => iprop(owing c 0 ∗ atPos EX (recvCell c d) 1 ∅ 0 ∗ gPts c d (gathered m c) ∗ wPts m c ∗ oPts c (addSlot m c o d))))
      isplitl
      · iapply (runs_recv m K c d hd o)
        isplitr; · iexact HR
        isplitl [HO]; · iexact HO
        isplitl [Hc]; · iexact Hc
        isplitl [Hat]; · iexact Hat
        isplitl [Hw] <;> iassumption
      · iintro %u ⟨HO, Hat, Hg, Hw, Ho⟩
        isplitl [HO Hw Ho]
        · isplitr; · iexact HR
          isplitl [HO]; · iexact HO
          isplitl [Hw]; · iexact Hw
          iexists _
          isplitr; · ipureintro; exact ho
          iexact Ho
        isplitl [Hat] <;> iassumption)
  isplitl [HO Hw Ho]
  · unfold summing
    isplitr; · iexact HR
    isplitl [HO]; · iexact HO
    isplitl [Hw]; · iexact Hw
    iexists _
    isplitr; · ipureintro; rfl
    iexact Ho
  isplitl [HcV HaV]
  · iapply sep_join
    isplitl [HcV] <;> iassumption
  unfold summing
  iintro ⟨⟨-, HO, Hw, %o', %ho, Ho⟩, HVg⟩
  ihave HVg := (sep_split _ _) $$ HVg
  icases HVg with ⟨HaV, Hg⟩
  subst ho
  -- the finished sends
  iapply (runs_offs c (fun _ => iprop(records m K ∗ owing c 0)) (fun d => iprop(cred (tallyAt (sendCell c d) () N) ∗ atPos EX (sendCell c d) 0 ∅ 0))
    (fun d => iprop(atPos EX (sendCell c d) 1 ∅ 0 ∗ sPts c d (staged m c))) fun d hd l => by
      iintro ⟨⟨#HR, HO⟩, Hc, Hat⟩
      iapply (wp_wand_r _ _ _ (Q := fun _ => iprop(owing c 0 ∗ atPos EX (sendCell c d) 1 ∅ 0 ∗ sPts c d (staged m c))))
      isplitl
      · iapply (runs_sent m K c d hd)
        isplitr; · iexact HR
        isplitl [HO]; · iexact HO
        isplitl [Hc] <;> iassumption
      · iintro %u ⟨HO, H⟩
        isplitl [HO]
        · isplitr; · iexact HR
          iexact HO
        iexact H)
  isplitl [HO]
  · isplitr; · iexact HR
    iexact HO
  isplitl [HcS HaS]
  · iapply sep_join
    isplitl [HcS] <;> iassumption
  iintro ⟨⟨-, HO⟩, HSs⟩
  ihave HSs := (sep_split _ _) $$ HSs
  icases HSs with ⟨HaS, Hs⟩
  -- the cells close
  unfold Runs
  rw [Prog.pure_eq_ret, wp_ret]
  imod (close_cells m K c .inl (duties_send_zero m c)) $$ [HaS0 HaS] with HzS
  · isplitr; · iexact HR
    isplitl [HaS0] <;> iassumption
  imod (close_cells m K c .inr (duties_recv_zero m c)) $$ [HaV0 HaV] with HzV
  · isplitr; · iexact HR
    isplitl [HaV0] <;> iassumption
  imod (Rounds.cell_close EX (sched m) (Set.mem_univ (K (c, .inl ()))) (fun h => h) (R := 1) (duties_later m (barCell c))) $$ [HaB] with HzB
  · isplitr; · iapply (records_inv m K (c, .inl ())); iexact HR
    iexact HaB
  imodintro
  isplitl [Hs0 Hs Hg0 Hg HzS HzV HzB]
  · unfold kept
    rw [scratch0_slots, scratch1_slots, bigSep_univ_at (fun d => sPts c d (staged m c)) 0, bigSep_univ_at (fun d => gPts c d (gathered m c)) 0]
    isplitl [Hs0 Hs]
    · isplitl [Hs0] <;> iassumption
    isplitl [Hg0 Hg]
    · isplitl [Hg0] <;> iassumption
    isplitl [HzS]; · iexact HzS
    isplitl [HzV] <;> iassumption
  isplitl [HO]; · iexact HO
  isplitl [Hx]; · iexact Hx
  isplitl [Hw] <;> iassumption

end Cert.KernelIdealProof

end
-- ==== Proof.Launch.lean ====
/-
# 01_k — `Launch`: all devices together

Every device runs the body of `Body`. This module hands out what the devices start from, follows the launch to its end, and
concludes `run_main`: every execution terminates, each device's output array holds `outOf`, the inputs are unchanged and
every semaphore is back at zero.

The launch set-up follows that of a kernel that shakes hands on the barrier semaphore: the invariants of all cells of all
devices are allocated in one step, since a device touches the cells of every other.
-/
module

public import proofs.«01_k».proof.Proof.Body
public import proofs.«01_k».proof.Proof.Gen.KernelIdeal.Points
public import Idealize.ShloMosaic.Lib.Pipeline.Value
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the pipeline moves -/

/-- What the pipeline knows of device `c`: its arrays at entry, what the body leaves in each staging buffer, and what the
    body holds before and after. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
    | ⟨2, _⟩ => outOf m c
  Φ t := match t with
    | ⟨0, _⟩ => iprop(start m c ∗ (∃ f, ((c : Thread nD τ).loc cc0_scratch0) ↦{fullShare} f) ∗ ∃ f, ((c : Thread nD τ).loc cc0_scratch1) ↦{fullShare} f)
    | ⟨_ + 1, _⟩ => kept m c
  q _ := fullShare
  owed t := match t with
    | ⟨0, _⟩ => owed₀ c
    | ⟨_ + 1, _⟩ => 0

omit [FloatOps F] in
/-- The three windows one by one. -/
theorem three_windows (Φ : Fin cfg0.W → sProp 𝕄) :
    bigSep Finset.univ Φ = iprop(Φ (0 : Fin 3) ∗ Φ (1 : Fin 3) ∗ Φ (2 : Fin 3)) := bigSep_W0 Φ

omit [FloatOps F] in
/-- Owning a whole buffer at `X` is holding it at contents equal to `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer of device `c` at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the pipeline hands the body. -/
def bodyPre (c : Dev nD) : sProp 𝕄 :=
  iprop((dats m 0 c).Φ t0_0.castSucc ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
/-- What it takes back. -/
def bodyPost (c : Dev nD) : sProp 𝕄 :=
  iprop((dats m 0 c).Φ t0_0.succ ∗ (dats m 0 c).owesAt () t0_0.succ
    ∗ stg c cc0_stg0_0 ((dats m 0 c).after (0 : Fin 3) t0_0)
    ∗ stg c cc0_stg1_0 ((dats m 0 c).after (1 : Fin 3) t0_0)
    ∗ stg c cc0_stg2_0 ((dats m 0 c).after (2 : Fin 3) t0_0))

theorem before_x (c : Dev nD) (d) : (dats m 0 c).before (0 : Fin 3) t0_0 d = xIn m c := by
  unfold Dat.before; rw [if_pos (fetch0_0 t0_0)]; rfl
theorem before_w (c : Dev nD) (d) : (dats m 0 c).before (1 : Fin 3) t0_0 d = wIn m c := by
  unfold Dat.before; rw [if_pos (fetch0_1 t0_0)]; rfl

/-- The body under what the pipeline hands it. -/
theorem body_meets (c : Dev nD) :
    bodyPre m c ⊢ Runs c (body xM (Memref.isWhole_whole _) wM (Memref.isWhole_whole _) oM (Memref.isWhole_whole _) sM (Memref.isWhole_whole _)
          gM (Memref.isWhole_whole _) cc0_scratch2 cc0_scratch3) (fun _ => bodyPost m c) := by
  unfold bodyPre
  rw [show (dats m 0 c).Φ t0_0.castSucc = iprop(start m c ∗ (∃ f, ((c : Thread nD τ).loc cc0_scratch0) ↦{fullShare} f)
      ∗ ∃ f, ((c : Thread nD τ).loc cc0_scratch1) ↦{fullShare} f) from rfl]
  simp only [before_x, before_w]
  unfold start Dat.owesAt Pipeline.owesWithin
  rw [show (dats m 0 c).owed t0_0.castSucc = owed₀ c from rfl]
  iintro ⟨⟨⟨⟨%K, Hg⟩, Hc, Hl⟩, ⟨%f0, Hs⟩, %f1, Hr⟩, ⟨%W, -, HO⟩, ⟨%dx, %gx, %hgx, Hx⟩, ⟨%dw, %gw, %hgw, Hw⟩, ⟨%do', %go, %hgo, Ho⟩⟩
  subst hgx hgw
  unfold Runs
  iapply (wp_wand_r _ _ _ (Q := fun _ => iprop(kept m c ∗ owing c 0 ∗ xPts m c ∗ wPts m c ∗ oPts c (outOf m c))))
  isplitl
  · iapply (runs_body m K c f0 f1 go)
    isplitl [Hg]; · iexact Hg
    isplitl [Hc]; · iexact Hc
    isplitl [Hl]; · iexact Hl
    isplitl [HO]; · unfold owing; iexists W; iexact HO
    isplitl [Hx]; · unfold xPts; iexact Hx
    isplitl [Hw]; · unfold wPts; iexact Hw
    isplitl [Ho]; · unfold oPts; iexact Ho
    isplitl [Hs] <;> iassumption
  · iintro %u ⟨Hk, HO, Hx, Hw, Ho⟩
    unfold bodyPost owing Dat.owesAt Pipeline.owesWithin xPts wPts oPts
    rw [show (dats m 0 c).owed t0_0.succ = 0 from rfl, show (dats m 0 c).Φ t0_0.succ = kept m c from rfl]
    icases HO with ⟨%W', HO⟩
    isplitl [Hk]; · iexact Hk
    isplitl [HO]
    · iexists W'
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Ho

set_option maxRecDepth 8000 in
/-- The kernel's body does what the pipeline asks of it, on every device. -/
theorem body_obligation (c : Dev nD) : BodyObligation (dats (F := F) m 0 c) (defs₀ (F := F)) 𝒱₀ () Set.univ := fun t => by
  rw [fin_N0 t]
  rw [three_windows, three_windows]
  simp only [owns_whole]
  have h : (defs₀ (F := F) Proc.tc 0 (t0_0, cfg0.slots t0_0)) = bodyAt0 t0_0 := rfl
  have h' : (defs₀ (F := F) Proc.tc 0 (t0_0, cfg0.slots t0_0)) = body xM (Memref.isWhole_whole _) wM (Memref.isWhole_whole _) oM
      (Memref.isWhole_whole _) sM (Memref.isWhole_whole _) gM (Memref.isWhole_whole _) cc0_scratch2 cc0_scratch3 := by rw [h, ← cc0_body_eq]
  rw [h']
  refine Entails.trans (Q := bodyPre m c) (Entails.of_eq rfl) ?_
  have hb := body_meets m c
  unfold Runs bodyPost at hb
  refine hb.trans ?_
  rw [show iprop((dats m 0 c).Φ t0_0.succ ∗ (dats m 0 c).owesAt () t0_0.succ
      ∗ stg c cc0_stg0_0 ((dats m 0 c).after (0 : Fin 3) t0_0)
      ∗ stg c cc0_stg1_0 ((dats m 0 c).after (1 : Fin 3) t0_0)
      ∗ stg c cc0_stg2_0 ((dats m 0 c).after (2 : Fin 3) t0_0))
    = iprop((dats m 0 c).Φ t0_0.succ ∗ (dats m 0 c).owesAt () t0_0.succ
      ∗ (∃ f, ⌜f = (dats m 0 c).after 0 t0_0⌝ ∗ (c : Thread nD τ).loc cc0_stg0_0 ↦{fullShare} f)
      ∗ (∃ f, ⌜f = (dats m 0 c).after 1 t0_0⌝ ∗ (c : Thread nD τ).loc cc0_stg1_0 ↦{fullShare} f)
      ∗ ∃ f, ⌜f = (dats m 0 c).after 2 t0_0⌝ ∗ (c : Thread nD τ).loc cc0_stg2_0 ↦{fullShare} f) from rfl]

/-! ## Cells and tokens at the launch -/

theorem ownSemFacts : Pipeline.OwnSemFacts cfg0.spec ownSem where
  isScoped := by decide
  inj := by
    have hs (a b : Fin 32) (h : ownSem (.inl a) = ownSem (.inl b)) : a = b := by
      rw [← offOf_send a, ← offOf_send b]; exact congrArg offOf (SemLoc.dma.inj h)
    have hr (a b : Fin 32) (h : ownSem (.inr a) = ownSem (.inr b)) : a = b := by
      rw [← offOf_recv a, ← offOf_recv b]; exact congrArg offOf (SemLoc.dma.inj h)
    have hsr (a b : Fin 32) (h : ownSem (.inl a) = ownSem (.inr b)) : False := by
      have h1 : (sendS a).val = (recvS b).val := congrArg Fin.val (SemLoc.dma.inj h)
      rw [sendS_val, recvS_val] at h1; omega
    rintro (a | a) (b | b) h
    · rw [hs a b h]
    · exact (hsr a b h).elim
    · exact (hsr b a h.symm).elim
    · rw [hr a b h]
  disj := by decide

theorem share_full (c : Dev nD) (w : Fin cfg0.W) : (dats m 0 c).share w = fullShare := by unfold Dat.share; split <;> rfl

theorem cellSem_injective : Function.Injective cellSem := by
  rintro (a | a) (b | b) h
  · rfl
  · rcases b with b | b <;> cases h
  · rcases a with a | a <;> cases h
  · rw [ownSemFacts.inj h]
theorem cellAt_injective : Function.Injective cellAt := by
  rintro ⟨c, k⟩ ⟨c', k'⟩ h
  have h1 : c = c' := congrArg (fun g : GSem nD τ sig => g.1.1) h
  have h2 : k = k' := cellSem_injective (congrArg Prod.snd h)
  rw [h1, h2]
/-- All cells of the exchange. -/
def allCells : Finset (GSem nD τ sig) := Finset.univ.map ⟨cellAt, cellAt_injective⟩

/-- A duty's token as minted with its cell: duty `d` of the barrier, and the one duty of each send and receive semaphore. -/
abbrev tokAt (p : Dev nD × (Fin 32 ⊕ (Fin 32 ⊕ Fin 32))) : GSem nD τ sig × ℕ × Fin 32 := match p.2 with
  | .inl d => (barCell p.1, 0, d)
  | .inr (.inl d) => (sendCell p.1 d, 0, 0)
  | .inr (.inr d) => (recvCell p.1 d, 0, 0)
theorem tokAt_injective : Function.Injective tokAt := by
  rintro ⟨c, k⟩ ⟨c', k'⟩ h
  have h1 : c = c' := by
    have := congrArg (fun x : GSem nD τ sig × ℕ × Fin 32 => x.1.1.1) h
    rcases k with k | k | k <;> rcases k' with k' | k' | k' <;> exact this
  have h2 : k = k' := by
    have hc := congrArg (fun x : GSem nD τ sig × ℕ × Fin 32 => x.1.2) h
    have hd := congrArg (fun x : GSem nD τ sig × ℕ × Fin 32 => x.2.2) h
    rcases k with k | k | k <;> rcases k' with k' | k' | k'
    · exact congrArg _ hd
    · cases hc
    · cases hc
    · cases hc
    · exact congrArg _ (ownSemFacts.inj hc)
    · exact congrArg _ (ownSemFacts.inj (a₁ := .inl k) (a₂ := .inr k') hc)
    · cases hc
    · exact congrArg _ (ownSemFacts.inj (a₁ := .inr k) (a₂ := .inl k') hc)
    · exact congrArg _ (ownSemFacts.inj hc)
  rw [h1, h2]
/-- All tokens of the exchange. -/
def allToks : Finset (GSem nD τ sig × ℕ × Fin 32) := Finset.univ.map ⟨tokAt, tokAt_injective⟩

/-- The ghost state at the launch: the pipeline's and the exchange's. -/
def u₀ : UU := (initOf (Pipeline.cells cfgs cellOf_inj) (Pipeline.launchToks cfgs cellOf_inj), initOf allCells allToks)

/-- The tokens of device `c`'s own cells. -/
def ownToks (c : Dev nD) : sProp 𝕄 :=
  iprop((bigSep Finset.univ fun d : Fin 32 => dutyTok EX (barCell c) 0 d)
    ∗ (bigSep Finset.univ fun d : Fin 32 => dutyTok EX (sendCell c d) 0 0)
    ∗ bigSep Finset.univ fun d : Fin 32 => dutyTok EX (recvCell c d) 0 0)

/-- What the launch gives device `c`: the state of its cells, its positions and the tokens of its own cells. -/
def dealt (c : Dev nD) : sProp 𝕄 :=
  iprop((bigSep Finset.univ fun k => roundState EX (sched m) (cellAt (c, k)) 0)
    ∗ (bigSep Finset.univ fun k => reached EX (cellAt (c, k)) 0)
    ∗ (bigSep Finset.univ fun k => atPos EX (cellAt (c, k)) 0 ∅ 0) ∗ ownToks c)

omit [FloatOps F] in
/-- A family over a sum of index types, as two families. -/
theorem over_sum {α β : Type} [Fintype α] [Fintype β] (Φ : α ⊕ β → sProp 𝕄) :
    bigSep Finset.univ Φ = iprop((bigSep Finset.univ fun a => Φ (.inl a)) ∗ bigSep Finset.univ fun b => Φ (.inr b)) :=
  BI.bigSep_univ_sum Φ
omit [FloatOps F] in
/-- A family over a device's cells: the barrier, the sends, the receives. -/
theorem over_cells (Φ : Unit ⊕ (Fin 32 ⊕ Fin 32) → sProp 𝕄) :
    bigSep Finset.univ Φ = iprop(Φ (.inl ()) ∗ (bigSep Finset.univ fun d => Φ (.inr (.inl d))) ∗ bigSep Finset.univ fun d => Φ (.inr (.inr d))) := by
  rw [over_sum, over_sum, bigSep_univ_of_subsingleton ()]

omit [FloatOps F] in
theorem deal : BI.own (EX (initOf allCells allToks)) ⊢ (|==> bigSep Finset.univ (dealt m) : sProp 𝕄) := by
  have hC (Φ : GSem nD τ sig → sProp 𝕄) : bigSep allCells Φ = bigSep Finset.univ fun c : Dev nD => bigSep Finset.univ fun k => Φ (cellAt (c, k)) := by
    unfold allCells; rw [bigSep_map, bigSep_univ_prod]; rfl
  have hT : bigSep allToks (fun x => (dutyTok EX x.1 x.2.1 x.2.2 : sProp 𝕄)) = bigSep Finset.univ fun c : Dev nD => ownToks c := by
    unfold allToks; rw [bigSep_map, bigSep_univ_prod]
    exact bigSep_congr fun c _ => by unfold ownToks; rw [over_sum, over_sum]; rfl
  iintro HX
  imod (Rounds.fund EX (sched m) allCells allToks) $$ HX with ⟨Hst, Hr, Hat, Htok⟩
  imodintro
  ihave Hst := (Entails.of_eq (hC fun g => roundState EX (sched m) g 0)) $$ Hst
  ihave Hat := (Entails.of_eq (hC fun g => atPos EX g 0 ∅ 0)) $$ Hat
  ihave Hr := (Entails.of_eq (hC fun g => reached EX g 0)) $$ Hr
  ihave Htok := (Entails.of_eq hT) $$ Htok
  unfold dealt; simp only [bigSep_sep']
  isplitl [Hst]; · iexact Hst
  isplitl [Hr]; · iexact Hr
  isplitl [Hat] <;> iassumption

omit [FloatOps F] in
/-- The kernel's own semaphores at zero: its sends and its receives. -/
theorem ownSems_eq (c : Dev nD) : (Pipeline.ownSems0 (Ix := Unit) (Name := ℕ) (U := UU) (Lvl := ℕ) (Val := Elt F) (τ := τ) ownSem c : sProp 𝕄)
    = iprop((bigSep Finset.univ fun d => semVal (sendCell c d) 0) ∗ bigSep Finset.univ fun d => semVal (recvCell c d) 0) := by
  unfold Pipeline.ownSems0; rw [over_sum]
omit [FloatOps F] in
/-- The barrier semaphore is the one semaphore that outlives the launch. -/
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The invariants of device `c`'s cells are allocated from their counters at zero. -/
theorem alloc_device (c : Dev nD) :
    iprop(Pipeline.ownSems0 (Ix := Unit) (Name := ℕ) (U := UU) (Lvl := ℕ) (Val := Elt F) (τ := τ) ownSem c ∗ unscopedSems0 c ∗ dealt m c)
      ⊢ |={Set.univ}=> iprop((bigSep Finset.univ fun k => iprop(∃ κ : ℕ, cellInv EX (sched m) κ (cellAt (c, k))))
          ∗ (bigSep Finset.univ fun k => reached EX (cellAt (c, k)) 0) ∗ positions c ∗ ownToks c) := by
  have hinv : iprop((bigSep Finset.univ fun k => semVal (cellAt (c, k)) 0) ∗ bigSep Finset.univ fun k => roundState EX (sched m) (cellAt (c, k)) 0)
      ⊢ (|={Set.univ}=> bigSep Finset.univ fun k => iprop(∃ κ : ℕ, cellInv EX (sched m) κ (cellAt (c, k))) : sProp 𝕄) := by
    rw [← bigSep_sep']
    exact (bigSep_mono fun k _ => (Rounds.body_intro EX (sched m) (cellAt (c, k))).trans inv_alloc).trans (bigSep_fupd _ _)
  rw [ownSems_eq, unscopedSems_eq]
  unfold dealt
  iintro ⟨⟨HS, HV⟩, HB, Hst, Hr, Hat, Htok⟩
  imod hinv $$ [HS HV HB Hst] with HI
  · isplitl [HS HV HB]
    · iapply (Entails.of_eq (over_cells fun k => (semVal (cellAt (c, k)) 0 : sProp 𝕄)).symm)
      isplitl [HB]; · iexact HB
      isplitl [HS] <;> iassumption
    iexact Hst
  imodintro
  isplitl [HI]; · iexact HI
  isplitl [Hr]; · iexact Hr
  isplitl [Hat]
  · unfold positions
    iapply (Entails.of_eq (over_cells fun k => (atPos EX (cellAt (c, k)) 0 ∅ 0 : sProp 𝕄))); iexact Hat
  iexact Htok

omit [FloatOps F] in
/-- A family over devices and offsets may be read at the device `d` further on. -/
theorem around (Φ : Dev nD → Fin 32 → sProp 𝕄) :
    (bigSep Finset.univ fun c : Dev nD => bigSep Finset.univ fun d : Fin 32 => Φ c d)
      = bigSep Finset.univ fun c : Dev nD => bigSep Finset.univ fun d : Fin 32 => Φ (fwd c d) d := by
  rw [BI.bigSep_univ_comm, BI.bigSep_univ_comm fun (c : Dev nD) (d : Fin 32) => Φ (fwd c d) d]
  exact bigSep_congr fun d _ => BI.bigSep_univ_equiv (Equiv.addRight d : Fin 32 ≃ Fin 32) (fun c : Dev nD => Φ c d)

omit [FloatOps F] in
/-- The tokens go from the cells' devices to those that pay the duties. -/
theorem toks_dealt : (bigSep Finset.univ fun c : Dev nD => (ownToks c : sProp 𝕄)) ⊢ bigSep Finset.univ fun c : Dev nD => payToks c := by
  have hsub (Φ : Fin 32 → sProp 𝕄) : bigSep Finset.univ Φ ⊢ bigSep (Finset.univ.erase 0) Φ := bigSep_subset (Finset.erase_subset _ _)
  unfold ownToks payToks
  rw [bigSep_sep', bigSep_sep', bigSep_sep', bigSep_sep', around fun c d => dutyTok EX (barCell c) 0 d,
    around fun c d => dutyTok EX (recvCell c d) 0 0]
  exact BI.sep_mono (bigSep_mono fun c _ => hsub _) (BI.sep_mono (bigSep_mono fun c _ => hsub _) (bigSep_mono fun c _ => hsub _))

omit [FloatOps F] in
/-- The devices' parts of the exchange, put together: one family of invariants that all share, and each device's positions
    and tokens. -/
theorem gather_records :
    (bigSep Finset.univ fun c : Dev nD => iprop((bigSep Finset.univ fun k => iprop(∃ κ : ℕ, cellInv EX (sched m) κ (cellAt (c, k))))
          ∗ (bigSep Finset.univ fun k => reached EX (cellAt (c, k)) 0) ∗ positions c ∗ ownToks c) : sProp 𝕄)
      ⊢ bigSep Finset.univ fun c => iprop(∃ K, ghost m K c) := by
  rw [bigSep_sep', bigSep_sep', bigSep_sep',
    ← bigSep_univ_prod (fun p : Dev nD × (Unit ⊕ (Fin 32 ⊕ Fin 32)) => iprop(∃ κ : ℕ, cellInv EX (sched m) κ (cellAt p))),
    ← bigSep_univ_prod (fun p : Dev nD × (Unit ⊕ (Fin 32 ⊕ Fin 32)) => (reached EX (cellAt p) 0 : sProp 𝕄))]
  iintro ⟨HI, #HR, Hpos, Htok⟩
  ihave HK := (BI.bigSep_exists_pi Finset.univ (fun (p : Dev nD × (Unit ⊕ (Fin 32 ⊕ Fin 32))) (κ : ℕ) => (cellInv EX (sched m) κ (cellAt p) : sProp 𝕄))) $$ HI
  icases HK with ⟨%K, #HI⟩
  ihave Htk := (toks_dealt (F := F)) $$ Htok
  iapply (bigSep_with_persistent (R := records m K) (Φ := fun c => iprop(positions c ∗ payToks c)) fun c _ => by
    unfold ghost
    iintro ⟨#HR, Hp, Ht⟩
    iexists K
    isplitr; · iexact HR
    isplitl [Hp] <;> iassumption)
  isplitr
  · unfold records; isplitl; · iexact HI
    iexact HR
  · rw [bigSep_sep']
    isplitl [Hpos] <;> iassumption

omit [FloatOps F] in
/-- All devices' semaphores become the shared invariants in one step. -/
theorem global_step :
    (bigSep Finset.univ fun c => iprop(Pipeline.ownSems0 (Ix := Unit) (Name := ℕ) (U := UU) (Lvl := ℕ) (Val := Elt F) (τ := τ) ownSem c
        ∗ unscopedSems0 c ∗ dealt m c) : sProp 𝕄)
      ⊢ |={Set.univ}=> bigSep Finset.univ fun c => iprop(∃ K, ghost m K c) :=
  ((bigSep_mono fun c _ => alloc_device m c).trans (bigSep_fupd _ _)).trans (BI.fupd_mono (gather_records m))

/-! ## What each device may wait for -/

/-- A sum of tallies at one cell counts the summands that name it. -/
theorem tally_sum_at (k : ℕ) (f : Fin 32 → GSem nD τ sig) (l : List (Fin 32)) (g : GSem nD τ sig) :
    ((l.map fun d => tallyAt (f d) () k).sum : CellTallies nD τ sig Unit) g () = (l.map fun d => if g = f d then k else 0).sum := by
  induction l with
  | nil => rfl
  | cons a l ih =>
    rw [List.map_cons, List.sum_cons, Pi.add_apply, Finsupp.add_apply, ih, List.map_cons, List.sum_cons, tallyAt_apply]
    congr 1
    by_cases h : g = f a
    · rw [if_pos ⟨h, rfl⟩, if_pos h]
    · rw [if_neg (fun h' => h h'.1), if_neg h]

/-- Over all devices, the summands of a list that hold for exactly one device each count once. -/
theorem sum_devices (k : ℕ) (p : Dev nD → Fin 32 → Prop) [∀ a d, Decidable (p a d)] (src : Fin 32 → Dev nD) (q : Fin 32 → Prop) [DecidablePred q]
    (h : ∀ a d, p a d ↔ a = src d ∧ q d) (l : List (Fin 32)) :
    ∑ a : Dev nD, (l.map fun d => if p a d then k else 0).sum = (l.map fun d => if q d then k else 0).sum := by
  induction l with
  | nil => exact Finset.sum_const_zero
  | cons e l ih =>
    simp only [List.map_cons, List.sum_cons]
    have he : ∑ a : Dev nD, (if p a e then k else 0) = if q e then k else 0 := by
      by_cases hq : q e
      · rw [if_pos hq, Finset.sum_congr rfl fun a _ => if_congr ((h a e).trans (and_iff_left hq)) rfl rfl, Finset.sum_ite_eq' Finset.univ (src e) fun _ => k,
          if_pos (Finset.mem_univ _)]
      · rw [if_neg hq]
        exact Finset.sum_eq_zero fun a _ => if_neg fun hp => hq ((h a e).mp hp).2
    rw [Finset.sum_add_distrib, ih, he]

/-- A summand `k` at each occurrence of `e`. -/
theorem sum_count (k : ℕ) (e : Fin 32) (l : List (Fin 32)) : (l.map fun d => if e = d then k else 0).sum = l.count e * k := by
  induction l with
  | nil => rw [List.count_nil, Nat.zero_mul]; rfl
  | cons a l ih =>
    rw [List.map_cons, List.sum_cons, ih, List.count_cons, Nat.add_mul, Nat.add_comm]
    congr 1
    by_cases h : e = a
    · subst h; rw [if_pos rfl, if_pos (beq_self_eq_true _), Nat.one_mul]
    · rw [if_neg h, if_neg (fun h' => h (beq_iff_eq.mp h').symm), Nat.zero_mul]

theorem bar_iff (c a : Dev nD) (d : Fin 32) : barCell c = barCell (fwd a d) ↔ a = bwd c d ∧ True := by
  rw [and_true]
  constructor
  · intro h
    have h1 : c = fwd a d := congrArg (fun g : GSem nD τ sig => g.1.1) h
    subst h1; exact (add_sub_cancel_right (G := Fin 32) a d).symm
  · rintro rfl
    show barCell c = barCell (c - d + d : Fin 32)
    rw [sub_add_cancel (G := Fin 32)]
theorem recv_iff (c : Dev nD) (e : Fin 32) (a : Dev nD) (d : Fin 32) : recvCell c e = recvCell (fwd a d) d ↔ a = bwd c d ∧ e = d := by
  constructor
  · intro h
    have h1 : c = fwd a d := congrArg (fun g : GSem nD τ sig => g.1.1) h
    have h2 : e = d := Sum.inr.inj (ownSemFacts.inj (a₁ := .inr e) (a₂ := .inr d) (congrArg Prod.snd h))
    subst h1; exact ⟨(add_sub_cancel_right (G := Fin 32) a d).symm, h2⟩
  · rintro ⟨rfl, rfl⟩
    show recvCell c e = recvCell (c - e + e : Fin 32) e
    rw [sub_add_cancel (G := Fin 32)]

/-- Together the devices owe a barrier 31 signals. -/
theorem owed_bar (c : Dev nD) : ∑ a : Dev nD, owed₀ a (barCell c) () = 31 := by
  have h (a : Dev nD) : owed₀ a (barCell c) () = (offs.map fun d => if barCell c = barCell (fwd a d) then 1 else 0).sum := by
    unfold owed₀ owedSlots owedSignals
    rw [Pi.add_apply, Finsupp.add_apply, tally_sum_at, tally_sum_at, List.map_congr_left (g := fun _ => 0) fun d _ => if_neg fun h => by cases congrArg Prod.snd h]
    rw [show (offs.map fun _ => 0).sum = 0 from by decide, Nat.zero_add]
  rw [Finset.sum_congr rfl fun a _ => h a, sum_devices 1 _ (fun d => bwd c d) (fun _ => True) (bar_iff c)]
  decide
/-- And the receive semaphore of an offset `e ≠ 0` one slot. -/
theorem owed_recv (c : Dev nD) (e : Fin 32) (he : e ≠ 0) : ∑ a : Dev nD, owed₀ a (recvCell c e) () = N := by
  have h (a : Dev nD) : owed₀ a (recvCell c e) () = (offs.map fun d => if recvCell c e = recvCell (fwd a d) d then N else 0).sum := by
    unfold owed₀ owedSlots owedSignals
    rw [Pi.add_apply, Finsupp.add_apply, tally_sum_at, tally_sum_at, List.map_congr_left (f := fun d => if recvCell c e = barCell (fwd a d) then 1 else 0) (g := fun _ => 0) fun d _ => if_neg fun h => by cases congrArg Prod.snd h]
    rw [show (offs.map fun _ => 0).sum = 0 from by decide, Nat.add_zero]
  rw [Finset.sum_congr rfl fun a _ => h a, sum_devices N _ (fun d => bwd c d) (fun d => e = d) (recv_iff c e)]
  rw [sum_count, (by decide : ∀ e : Fin 32, e ≠ 0 → offs.count e = 1) e he, Nat.one_mul]

theorem launch_bar (c : Dev nD) :
    tallyOn (barCell c) (launchCredit (Pipeline.owing owed₀) 0 (barCell c)) = (tallyAt (barCell c) () 31 : CellTallies nD τ sig Unit) := by
  unfold tallyAt; refine congrArg _ (Finsupp.ext fun u => ?_); cases u
  rw [Pipeline.launchCredit_owing, Finsupp.single_eq_same, owed_bar]
theorem launch_recv (c : Dev nD) (e : Fin 32) (he : e ≠ 0) :
    tallyOn (recvCell c e) (launchCredit (Pipeline.owing owed₀) 0 (recvCell c e)) = (tallyAt (recvCell c e) () N : CellTallies nD τ sig Unit) := by
  unfold tallyAt; refine congrArg _ (Finsupp.ext fun u => ?_); cases u
  rw [Pipeline.launchCredit_owing, Finsupp.single_eq_same, owed_recv c e he]

omit [FloatOps F] in
/-- The launch's credit covers what the device waits for. -/
theorem credits_intro (c : Dev nD) : (Pipeline.launchCred owed₀ c : sProp 𝕄) ⊢ credits c := by
  unfold Pipeline.launchCred credits
  rw [bigSep_univ_at _ (SemLoc.reg barS), launch_bar]
  refine sep_mono_right ?_
  refine (bigSep_subset (t := (Finset.univ.erase 0).image fun d : Fin 32 => SemLoc.dma (recvS d)) ?_).trans ?_
  · intro s hs
    obtain ⟨d, -, rfl⟩ := Finset.mem_image.mp hs
    exact Finset.mem_erase.mpr ⟨(fun h => by cases h), Finset.mem_univ _⟩
  · rw [BI.bigSep_image_of_injOn (fun a _ b _ h => Sum.inr.inj (ownSemFacts.inj (a₁ := .inr a) (a₂ := .inr b) h))]
    exact Entails.of_eq (bigSep_congr fun d hd => by rw [launch_recv c d (Finset.ne_of_mem_erase hd)])

/-! ## The run -/

variable (ρ : Dev nD → PrngReg)

omit [FloatOps F] in
theorem start_intro (c : Dev nD) :
    iprop(Pipeline.unscopedRestP Pipeline.Prefetch.none cfg0.spec c (fun b => m ((c : Thread nD τ).loc b)) ∗ levAts lvSet lv
        ∗ Pipeline.launchCred owed₀ c ∗ prngReg c (ρ c) ∗ ∃ K, ghost m K c)
      ⊢ |={Set.univ}=> iprop(start m c ∗ emp) := by
  iintro ⟨-, Hlev, Hcr, -, HG⟩
  imodintro
  unfold start
  isplitl
  · isplitl [HG]; · iexact HG
    isplitl [Hcr]; · iapply (credits_intro (F := F) c); iexact Hcr
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ (∃ f, ((c : Thread nD τ).loc cc0_scratch0) ↦{fullShare} f)
      ∗ ∃ f, ((c : Thread nD τ).loc cc0_scratch1) ↦{fullShare} f) from rfl, scopedRest0_eq]
  iintro ⟨Hs, -, Hr⟩
  isplitl [Hs] <;> iassumption

theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = kept m c from rfl, scopedRest0_eq, ownSems_eq, unscopedSems_eq]
  unfold kept
  iintro ⟨Hs, Hr, HzS, HzV, HzB⟩
  isplitl [HzB]; · iexact HzB
  isplitl [HzS HzV]
  · isplitl [HzS] <;> iassumption
  isplitl [Hs]
  · iexists _; iexact Hs
  iexists _; iexact Hr

theorem stage_waits (c : Dev nD) : (levAts lvSet lv : sProp 𝕄) ⊢ Pipeline.cellsWaits cfgs (dats m) () 0 c :=
  Pipeline.cellsWaits_intro cfgs (dats m) () 0 c fun w s t =>
    mayWait_stage c _ (by fin_cases w <;> fin_cases s <;> decide) _ (by
      obtain ⟨t, ht⟩ := t
      cases t with
      | zero => exact Or.inl rfl
      | succ t => exact Or.inr rfl)

/-- The array of window `w` on device `c` after the run. -/
def finalA (c : Dev nD) (w : Fin cfg0.W) : Buf (Elt F) ((cfg0.win w).arr.view.loc (c : Thread nD τ)) := (dats m 0 c).arrAt w cfg0.N

set_option maxRecDepth 100000 in
/-- On 32 devices, for any float values and from any memory with all semaphores at zero: every weakly fair execution
    terminates, and ends with every window's array at its final contents and every semaphore at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := share_full m) (hdistinct := winFacts0.arr_inj)
    (O₀ := owed₀) (howed₀ := fun _ => rfl) (howedN := fun _ => rfl)
    (L := lvSet) (lv := lv) (hL := lvSet_of_ne) (hwaits := stage_waits m)
    (G := dealt m) (G' := fun c => iprop(∃ K, ghost m K c)) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := global_step m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are unchanged. -/
theorem finalA_x (c : Dev nD) : finalA m c (0 : Fin 3) = m ((c : Thread nD τ).loc main_arg0) :=
  (dats (F := F) m 0 c).arrAt_in (0 : Fin 3) rfl _
theorem finalA_w (c : Dev nD) : finalA m c (1 : Fin 3) = m ((c : Thread nD τ).loc main_arg1) :=
  (dats (F := F) m 0 c).arrAt_in (1 : Fin 3) rfl _

end Cert.KernelIdealProof

end
-- ==== Proof.Value.lean ====
/-
# 01_k — `Value`: what the output holds, over the extended reals

Device `c`'s output is a sum over slots of products of 128 × 128 blocks of `x` with 128 rows of `w`. Slot `d` brings the
columns of device `c - d`, so summing over the slots is summing over the devices, and the blocks' columns together are all
4096 columns: the output is rows `128 c` to `128 c + 127` of the whole product `x · w`.
-/
module

public import proofs.«01_k».proof.Proof.Launch
public import proofs.«01_k».proof.ReferenceIdeal
public import proofs.«01_k».proof.Proof.Gen.ReferenceIdeal
public import Idealize.ShloMosaic.Lib.Layout
public import Idealize.ShloMosaic.Lib.MatmulPlain
public import Idealize.ShloMosaic.Lib.StackMember
public import Mathlib.Algebra.BigOperators.Fin
public import Mathlib.Logic.Equiv.Fin.Basic

@[expose] public section

noncomputable section

namespace Cert.KernelIdealProof

open Cert.KernelIdeal Cert.KernelIdeal.Gen
open Idealize.ShloMosaic
open Idealize.ShloMosaic.TcCoe
open Idealize.ShloMosaic.ValueIdx
open scoped BigOperators

/-! ## The final output array -/

section Out
variable {F : FTy → Type} [FloatOps F]
variable (m : (ℓ : Loc nD τ sig) → Buf (Elt F) ℓ) (c : Dev nD)

/-- The output window's block is the whole output array, entry for entry. -/
theorem blk2_emb (y : S128x2048.Idx) : (win0_2.blk (0 : Fin 1)).view.emb y = y := by
  exact Shape.idx_ext₂ (win0_2.rect_emb_val_of_index_zero (0 : Fin 1) (0 : Fin 2) rfl y) (win0_2.rect_emb_val_of_index_zero (0 : Fin 1) (1 : Fin 2) rfl y)

/-- So every entry of the output array is in that block. -/
theorem out_mem (i : S128x2048.Idx) : i ∈ (win0_2.blk (0 : Fin 1)).view.set :=
  Finset.mem_map.mpr ⟨i, Finset.mem_univ _, blk2_emb i⟩

/-- The part of the output's staging buffer that is written back is all of it, in place. -/
theorem cut_out (f : (cc0_stg2_0 : Ref sig .tc).ty.Contents (Elt F)) :
    win0_2.cut (grid0.coords (0 : Fin 1)) f = (win0_2.blk (0 : Fin 1)).view.read (Elt F) f :=
  funext fun y => (congrArg f (blk2_emb y)).symm

/-- After the run the output array holds the sum the body computed. -/
theorem finalA_out : finalA m c (2 : Fin 3) = outOf m c := by
  unfold finalA
  refine (dats (F := F) m 0 c).arrAt_eq_of_cover (2 : Fin 3) (outOf m c) ?_ ?_
  · intro t _
    obtain rfl : t = (0 : Fin 1) := Subsingleton.elim (α := Fin 1) _ _
    exact cut_out (outOf m c)
  · exact fun i => ⟨(0 : Fin 1), flush0_2 (0 : Fin 1), out_mem i⟩

/-- The staged block of `x` is the device's block, entry for entry. -/
theorem xIn_eq : xIn m c = m ((c : Thread nD τ).loc main_arg0) := by
  funext y
  refine congrArg (m ((c : Thread nD τ).loc main_arg0)) ?_
  exact Shape.idx_ext₂ (win0_0.rect_emb_val_of_index_zero (0 : Fin 1) (0 : Fin 2) rfl y) (win0_0.rect_emb_val_of_index_zero (0 : Fin 1) (1 : Fin 2) rfl y)
/-- The staged copy of `w` is the device's copy, entry for entry. -/
theorem wIn_eq : wIn m c = m ((c : Thread nD τ).loc main_arg1) := by
  funext y
  refine congrArg (m ((c : Thread nD τ).loc main_arg1)) ?_
  exact Shape.idx_ext₂ (win0_1.rect_emb_val_of_index_zero (0 : Fin 1) (0 : Fin 2) rfl y) (win0_1.rect_emb_val_of_index_zero (0 : Fin 1) (1 : Fin 2) rfl y)

/-- Row `i` of the 128 rows that device `e` names. -/
def row (e : Fin 32) (i : Fin 128) : Fin 4096 := ⟨128 * e.val + i.val, by have := e.isLt; have := i.isLt; omega⟩

/-- Entry (i, k) of slot `d`, as the kernel loads it: row `128 c + i` of the block of the device `d` before. -/
theorem gSlot_apply (d : Fin 32) (i k : Fin 128) :
    gSlot m c d (Fin.cons ⟨0, Nat.one_pos⟩ (ix2 i k)) = m (((bwd c d : Dev nD) : Thread nD τ).loc main_arg0) (ix2 (row c i) k) := by
  have hs : slotOf (gM.view.emb ((slotRect d).toLoadRect.idx (Fin.cons ⟨0, Nat.one_pos⟩ (ix2 i k)))) = d :=
    Fin.ext (by show d.val + 1 * 0 = d.val; omega)
  show xIn m (bwd c (slotOf (gM.view.emb ((slotRect d).toLoadRect.idx (Fin.cons ⟨0, Nat.one_pos⟩ (ix2 i k))))))
    (srcIdx (bwd c (slotOf (gM.view.emb ((slotRect d).toLoadRect.idx (Fin.cons ⟨0, Nat.one_pos⟩ (ix2 i k))))))
      (gM.view.emb ((slotRect d).toLoadRect.idx (Fin.cons ⟨0, Nat.one_pos⟩ (ix2 i k))))) = _
  rw [hs, xIn_eq]
  refine congrArg (m (((bwd c d : Dev nD) : Thread nD τ).loc main_arg0)) ?_
  refine Shape.idx_ext₂ ?_ ?_
  · show 128 * (fwd (bwd c d) (slotOf _)).val + (0 + 1 * i.val) = 128 * c.val + i.val
    rw [hs, show fwd (bwd c d) d = c from sub_add_cancel (G := Fin 32) c d]; omega
  · show 0 + 1 * k.val = k.val
    omega

/-- Entry (k, j) of the rows of `w` that go with slot `d`. -/
theorem wRows_apply (d : Fin 32) (k : Fin 128) (j : Fin 2048) :
    wRows m c d (ix2 k j) = m ((c : Thread nD τ).loc main_arg1) (ix2 (row (bwd c d) k) j) := by
  show wIn m c _ = _
  rw [wIn_eq]
  refine congrArg (m ((c : Thread nD τ).loc main_arg1)) ?_
  refine Shape.idx_ext₂ ?_ ?_
  · show k0_off2 c (BitVec.ofNat 32 d.val) 0 + 1 * k.val = 128 * (bwd c d).val + k.val
    rw [off2_eq, Nat.one_mul]; rfl
  · show k0_off2 c (BitVec.ofNat 32 d.val) 1 + 1 * j.val = j.val
    rw [off2_eq, Nat.one_mul]; exact Nat.zero_add _

end Out

/-! ## The sum over the slots -/

variable (m : (ℓ : Loc nD τ sig) → Buf (Elt Ideal) ℓ) (c : Dev nD)

/-- The first product at (i, j). -/
theorem pay37_apply (x : Vec Ideal S1x128x128 .bf16) (w : Vec Ideal S128x2048 .bf16) (i : Fin 128) (j : Fin 2048) :
    k0_pay37 x w (ix2 i j) = ∑ k : Fin 128, x (Fin.cons ⟨0, Nat.one_pos⟩ (ix2 i k)) * w (ix2 k j) := by
  unfold k0_pay37
  rw [shapeCast_self]
  refine (Ideal.matmul_plain_apply (M := 128) (K := 128) (N := 2048) none _ w _ i j).trans ?_
  refine (congrArg (· + _) Ideal.ofBits_zero_f32).trans ((zero_add (M := EReal) _).trans ?_)
  refine Finset.sum_congr rfl fun k _ => congrArg (· * w (ix2 k j)) ?_
  exact shapeCast_dropUnit_apply ![128, 128] x _ _

/-- A later product at (i, j), added to the sum so far. -/
theorem pay38_apply (x : Vec Ideal S1x128x128 .bf16) (w : Vec Ideal S128x2048 .bf16) (o : Vec Ideal S128x2048 .f32) (i : Fin 128) (j : Fin 2048) :
    k0_pay38 x w o (ix2 i j) = o (ix2 i j) + k0_pay37 x w (ix2 i j) := by
  unfold k0_pay38 k0_pay37
  rw [shapeCast_self o]
  rfl

/-- Slot `d`'s part of entry (i, j) of the output. -/
def part (i : Fin 128) (j : Fin 2048) (d : Fin 32) : EReal := k0_pay37 (gSlot m c d) (wRows m c d) (ix2 i j)

/-- Adding slots one after another adds their parts. -/
theorem foldl_apply (i : Fin 128) (j : Fin 2048) : ∀ (l : List (Fin 32)) (o : Vec Ideal S128x2048 .f32),
    l.foldl (addSlot m c) o (ix2 i j) = o (ix2 i j) + (l.map (part m c i j)).sum
  | [], o => (add_zero (M := EReal) _).symm
  | d :: l, o => by
    rw [List.foldl_cons, foldl_apply i j l, List.map_cons, List.sum_cons, ← add_assoc]
    exact congrArg (· + (l.map (part m c i j)).sum) (pay38_apply _ _ o i j)

/-- Entry (i, j) of the output is the sum of all slots' parts. -/
theorem outOf_sum (i : Fin 128) (j : Fin 2048) : outOf m c (ix2 i j) = ∑ d : Fin 32, part m c i j d := by
  rw [Fin.sum_univ_def, show List.finRange 32 = 0 :: offs by decide, List.map_cons, List.sum_cons]
  exact foldl_apply m c i j offs (ownOut m c)

/-! ## The whole product -/

/-- A sum over 4096 columns is a sum over 32 devices of sums over 128 columns. -/
theorem sum_columns (f : Fin 4096 → EReal) : ∑ n, f n = ∑ e : Fin 32, ∑ k : Fin 128, f (row e k) := by
  rw [← Fintype.sum_prod_type', ← Equiv.sum_comp (finProdFinEquiv (m := 32) (n := 128))]
  refine Finset.sum_congr rfl fun p _ => congrArg f (Fin.ext ?_)
  show p.2.val + 128 * p.1.val = 128 * p.1.val + p.2.val
  omega

variable (X : FVec Ideal (⟨2, ![4096, 4096]⟩ : Shape) .bf16) (W : FVec Ideal (⟨2, ![4096, 2048]⟩ : Shape) .bf16)

/-- The whole product `x · w`. -/
def whole : FVec Ideal (⟨2, ![4096, 2048]⟩ : Shape) .f32 :=
  Host.dotGeneral Cert.ReferenceIdeal.dot_S4096x4096_S4096x2048_S4096x2048_1_0_0_1_n_n none X W

/-- The whole product, entry by entry. -/
theorem whole_apply (i : Fin 4096) (j : Fin 2048) : whole X W (ix2 i j) = ∑ n : Fin 4096, X (ix2 i n) * W (ix2 n j) :=
  StackMember.dotGeneral_plain_apply (m := 4096) (n := 2048) none X W i j

/-- When the devices hold the column blocks of `X` and each a copy of `W`, device `c`'s output is block `c` of the rows of the
    whole product. -/
theorem outOf_eq (hx : ∀ e : Dev nD, m ((e : Thread nD τ).loc main_arg0) = Layout.block ⟨2, ![4096, 128]⟩ ⟨2, ![4096, 4096]⟩ 1 32 e X)
    (hw : m ((c : Thread nD τ).loc main_arg1) = W) :
    outOf m c = Layout.block ⟨2, ![128, 2048]⟩ ⟨2, ![4096, 2048]⟩ 0 32 c (whole X W) := by
  funext y
  obtain ⟨i, j, rfl⟩ : ∃ (i : Fin 128) (j : Fin 2048), y = ix2 i j := ⟨_, _, eq_ix2 y⟩
  have hp : ∀ d : Fin 32, part m c i j d = ∑ k : Fin 128, X (ix2 (row c i) (row (bwd c d) k)) * W (ix2 (row (bwd c d) k) j) := fun d => by
    unfold part
    rw [pay37_apply]
    refine Finset.sum_congr rfl fun k _ => ?_
    rw [gSlot_apply, wRows_apply, hx, hw]
    refine congrArg (X · * _) (Shape.idx_ext₂ rfl ?_)
    show (bwd c d).val * 128 + k.val = 128 * (bwd c d).val + k.val
    omega
  rw [outOf_sum, Finset.sum_congr rfl fun d _ => hp d]
  have hr : ∑ d : Fin 32, ∑ k : Fin 128, X (ix2 (row c i) (row (bwd c d) k)) * W (ix2 (row (bwd c d) k) j)
      = ∑ e : Fin 32, ∑ k : Fin 128, X (ix2 (row c i) (row e k)) * W (ix2 (row e k) j) :=
    Equiv.sum_comp (Equiv.subLeft (c : Fin 32)) fun e => ∑ k : Fin 128, X (ix2 (row c i) (row e k)) * W (ix2 (row e k) j)
  rw [hr, ← sum_columns fun n => X (ix2 (row c i) n) * W (ix2 n j), ← whole_apply]
  refine congrArg (whole X W) (Shape.idx_ext₂ ?_ rfl)
  show 128 * c.val + i.val = c.val * 128 + i.val
  omega

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

section SameText
local instance : Cert.Kernel.Facts := Cert.Kernel.Gen.facts
local instance : Cert.KernelIdeal.Facts := Cert.KernelIdeal.Gen.facts

set_option maxRecDepth 100000 in
/-- The two printed kernels have the same body. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))
/-- So the two programs have the same functions. -/
theorem defs_eq : Cert.Kernel.defs (F := Bits) = Cert.KernelIdeal.defs (F := Bits) := congrArg (Pipeline.defs _) defs₀_eq
/-- And the same entry. -/
theorem main_eq : Cert.Kernel.main (F := Bits) = Cert.KernelIdeal.main (F := Bits) := rfl
end SameText

/-- The kernel as written terminates on all 32 devices, leaves its arguments unchanged and every semaphore at zero. -/
theorem frame_kernel : Cert.quiescent_Kernel := fun m ρ _ => by
  rw [defs_eq, main_eq]
  exact (θ_run Cert.KernelIdeal.defs _ _).mono
    (fun _ h => ⟨fun c => ⟨(h.1 c (0 : Fin 3)).trans (Cert.KernelIdealProof.finalA_x (F := Bits) m c),
      (h.1 c (1 : Fin 3)).trans (Cert.KernelIdealProof.finalA_w (F := Bits) m c)⟩, h.2⟩)
    (Cert.KernelIdealProof.run_main (F := Bits) m ρ)

/-- So does the kernel read over the extended reals. -/
theorem frame_kernelIdeal : Cert.quiescent_KernelIdeal := fun m ρ _ =>
  (θ_run Cert.KernelIdeal.defs _ _).mono
    (fun _ h => ⟨fun c => ⟨(h.1 c (0 : Fin 3)).trans (Cert.KernelIdealProof.finalA_x m c),
      (h.1 c (1 : Fin 3)).trans (Cert.KernelIdealProof.finalA_w m c)⟩, h.2⟩)
    (Cert.KernelIdealProof.run_main m ρ)

/-- The reference terminates and leaves its arguments unchanged; it has no semaphore to leave. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- Over the extended reals, device `c`'s result is block `c` of the rows of the reference's result. -/
theorem algebraic : Cert.algebraic_KernelIdeal_ReferenceIdeal := fun m ρ m' ρ' _ hm =>
  ⟨Cert.KernelIdealProof.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans ((Cert.KernelIdealProof.finalA_out m c).trans
          (Cert.KernelIdealProof.outOf_eq m c _ _ (fun e => (hm e).1) (hm c).2)),
        (h.1 c (0 : Fin 3)).trans (Cert.KernelIdealProof.finalA_x m c),
        (h.1 c (1 : Fin 3)).trans (Cert.KernelIdealProof.finalA_w m c)⟩)
      (Cert.KernelIdealProof.run_main m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
